-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_weights_finite [hPre_weights_finite : Cert.Pre_weights_finite.Facts] (m : (ℓ : Loc Cert.KernelIdeal.nD Cert.KernelIdeal.τ Cert.KernelIdeal.sig) → Buf (Elt Ideal) ℓ) : Prop :=
  ∀ c : Dev Cert.KernelIdeal.nD,
    (Cert.Pre_weights_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_weights_finite [hPre_weights_finite : Cert.Pre_weights_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_weights_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_weights_finite [hKernelIdeal : Cert.KernelIdeal.Facts] [hPre_weights_finite : Cert.Pre_weights_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_weights_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_weights_finite [hReferenceIdeal : Cert.ReferenceIdeal.Facts] [hPre_weights_finite : Cert.Pre_weights_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_weights_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal_pre_weights_finite [hKernelIdeal : Cert.KernelIdeal.Facts] [hReferenceIdeal : Cert.ReferenceIdeal.Facts] [hPre_weights_finite : Cert.Pre_weights_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_weights_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_weights_finite : Cert.Pre_weights_finite.Facts),
    quiescent_Kernel (hKernel := hKernel)
    ∧ quiescent_KernelIdeal (hKernelIdeal := hKernelIdeal)
    ∧ quiescent_KernelIdeal_pre_weights_finite (hKernelIdeal := hKernelIdeal) (hPre_weights_finite := hPre_weights_finite)
    ∧ quiescent_ReferenceIdeal (hReferenceIdeal := hReferenceIdeal)
    ∧ quiescent_ReferenceIdeal_pre_weights_finite (hReferenceIdeal := hReferenceIdeal) (hPre_weights_finite := hPre_weights_finite)
    ∧ preserves_Kernel_KernelIdeal
    ∧ algebraic_KernelIdeal_ReferenceIdeal_pre_weights_finite (hKernelIdeal := hKernelIdeal) (hReferenceIdeal := hReferenceIdeal) (hPre_weights_finite := hPre_weights_finite)
-- ==== Pre_weights_finite.lean ====
abbrev S256x4096x128 : Shape := ⟨3, ![256, 4096, 128]⟩
abbrev S128x1 : Shape := ⟨2, ![128, 1]⟩
abbrev S_ : Shape := ⟨0, ![]⟩

class Facts : Prop where
  bcast_S_S128x1 : S_.BroadcastsInDim S128x1 (![] : Fin 0 → Fin S128x1.rank)

variable [Facts]

def fn {F : FTy → Type} [FloatOps F] (main_arg0 : FVec F S256x4096x128 .f32) (main_arg1 : FVec F S128x1 .f32) : IVec S128x1 1 :=
  let main_v0 : FVec F S128x1 .f32 := Host.absf main_arg1
  let main_cst : FVec F S_ .f32 := constant S_ .f32 0x7F800000#32
  let main_v1 : FVec F S128x1 .f32 := broadcastInDim S128x1 ![] bcast_S_S128x1 main_cst
  let main_v2 : IVec S128x1 1 := cmpf .olt main_v0 main_v1
  main_v2
-- ==== Kernel.lean ====
abbrev S256x4096x128 : Shape := ⟨3, ![256, 4096, 128]⟩
abbrev S128x1 : Shape := ⟨2, ![128, 1]⟩
abbrev S1x128 : Shape := ⟨2, ![1, 128]⟩
abbrev S32x8x128 : Shape := ⟨3, ![32, 8, 128]⟩
abbrev S3x8x4096x128 : Shape := ⟨4, ![3, 8, 4096, 128]⟩
abbrev S3x4 : Shape := ⟨2, ![3, 4]⟩
abbrev S1x1x128 : Shape := ⟨3, ![1, 1, 128]⟩
abbrev S1x1 : Shape := ⟨2, ![1, 1]⟩
abbrev S_ : Shape := ⟨0, ![]⟩
abbrev S1x8x4096x128 : Shape := ⟨4, ![1, 8, 4096, 128]⟩
abbrev S8x4096x128 : Shape := ⟨3, ![8, 4096, 128]⟩
abbrev S2x4096x128 : Shape := ⟨3, ![2, 4096, 128]⟩
abbrev S8x256x128 : Shape := ⟨3, ![8, 256, 128]⟩
abbrev S8x256 : Shape := ⟨2, ![8, 256]⟩
abbrev S8x256x1 : Shape := ⟨3, ![8, 256, 1]⟩
abbrev S8x1 : Shape := ⟨2, ![8, 1]⟩
abbrev S8x1x1 : Shape := ⟨3, ![8, 1, 1]⟩
abbrev S8x128 : Shape := ⟨2, ![8, 128]⟩
abbrev S8x1x128 : Shape := ⟨3, ![8, 1, 128]⟩
abbrev S1x8x128 : Shape := ⟨3, ![1, 8, 128]⟩
abbrev S256x128 : Shape := ⟨2, ![256, 128]⟩

abbrev nBuf : Space → Nat
  | .hbm => 5
  | .vmem => 3
  | .smem => 0
  | _ => 0

abbrev bufTy : (tb : Table) → Fin (tcTables nBuf tb) → BufTy
  | .hbm, ⟨0, _⟩ => ⟨S256x4096x128, .f32⟩
  | .hbm, ⟨1, _⟩ => ⟨S128x1, .f32⟩
  | .hbm, ⟨2, _⟩ => ⟨S1x128, .f32⟩
  | .hbm, ⟨3, _⟩ => ⟨S32x8x128, .f32⟩
  | .hbm, ⟨4, _⟩ => ⟨S256x128, .f32⟩
  | .local _ .vmem, ⟨0, _⟩ => ⟨S1x128, .f32⟩
  | .local _ .vmem, ⟨1, _⟩ => ⟨S32x8x128, .f32⟩
  | .local _ .vmem, ⟨2, _⟩ => ⟨S3x8x4096x128, .f32⟩
  | _, _ => ⟨S256x4096x128, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

def k0_mult1 : BitVec 32 :=
  let c0_i32_1 : BitVec 32 := 0#32
  c0_i32_1
def k0_off1 (c0_i32 : BitVec 32) : Fin 2 → Nat :=
  let c3_i32 : BitVec 32 := 3#32
  let v5 : BitVec 32 := Scalar.remsi c0_i32 c3_i32
  let c0_i32_3 : BitVec 32 := 0#32
  ![v5.toNat, 0]
def k0_off2 (c0_i32 : BitVec 32) : Fin 4 → Nat :=
  let c3_i32 : BitVec 32 := 3#32
  let v5 : BitVec 32 := Scalar.remsi c0_i32 c3_i32
  let c0_i32_4 : BitVec 32 := 0#32
  let c0_i32_5 : BitVec 32 := 0#32
  let c0_i32_6 : BitVec 32 := 0#32
  ![v5.toNat, 0, 0, 0]
def k0_off3 (c0_i32_1 : BitVec 32) (c0_i32_2 : BitVec 32) : Fin 3 → Nat :=
  let v6 : BitVec 32 := c0_i32_1
  let v7 : BitVec 32 := Scalar.addi v6 c0_i32_2
  let c0_i32_10 : BitVec 32 := 0#32
  let c0_i32_11 : BitVec 32 := 0#32
  ![v7.toNat, 0, 0]
def k0_mult2 : BitVec 32 :=
  let c0_i32_14 : BitVec 32 := 0#32
  c0_i32_14
def k0_off4 (c0_i32_12 : BitVec 32) : Fin 2 → Nat :=
  let c3_i32_13 : BitVec 32 := 3#32
  let v14 : BitVec 32 := Scalar.remsi c0_i32_12 c3_i32_13
  let c1_i32 : BitVec 32 := 1#32
  ![v14.toNat, 1]
def k0_mult3 : BitVec 32 :=
  let c0_i32_25 : BitVec 32 := 0#32
  c0_i32_25
def k0_off5 (c0_i32_23 : BitVec 32) : Fin 2 → Nat :=
  let c3_i32_24 : BitVec 32 := 3#32
  let v23 : BitVec 32 := Scalar.remsi c0_i32_23 c3_i32_24
  let c2_i32_26 : BitVec 32 := 2#32
  ![v23.toNat, 2]
def k0_mult4 : BitVec 32 :=
  let c0_i32_37 : BitVec 32 := 0#32
  c0_i32_37
def k0_off6 (c0_i32_35 : BitVec 32) : Fin 2 → Nat :=
  let c3_i32_36 : BitVec 32 := 3#32
  let v32 : BitVec 32 := Scalar.remsi c0_i32_35 c3_i32_36
  let c3_i32_38 : BitVec 32 := 3#32
  ![v32.toNat, 3]
def k0_mult5 : BitVec 32 :=
  let c8_i32 : BitVec 32 := 8#32
  c8_i32
def k0_mult6 : BitVec 32 :=
  let c8_i32_61 : BitVec 32 := 8#32
  c8_i32_61
def k0_mult7 : BitVec 32 :=
  let c8_i32_74 : BitVec 32 := 8#32
  c8_i32_74
def k0_mult8 : BitVec 32 :=
  let c8_i32_87 : BitVec 32 := 8#32
  c8_i32_87
def k0_mult9 : BitVec 32 :=
  let c16_i32 : BitVec 32 := 16#32
  c16_i32
def k0_mult10 : BitVec 32 :=
  let c16_i32_112 : BitVec 32 := 16#32
  c16_i32_112
def k0_mult11 : BitVec 32 :=
  let c16_i32_125 : BitVec 32 := 16#32
  c16_i32_125
def k0_mult12 : BitVec 32 :=
  let c16_i32_138 : BitVec 32 := 16#32
  c16_i32_138
@[reducible] def k0_t1_loop : Scf.Loop 32 :=
  let c0_i32_149 : BitVec 32 := 0#32
  let c32_i32 : BitVec 32 := 32#32
  let v113 : BitVec 32 := Scalar.addi c0_i32_149 c32_i32
  let c1_i32_150 : BitVec 32 := 1#32
  ⟨c0_i32_149, v113, c1_i32_150⟩
def k0_mult13 (k0_t1 : Fin k0_t1_loop.trips) : BitVec 32 :=
  let c0_i32_149 : BitVec 32 := 0#32
  let c1_i32_150 : BitVec 32 := 1#32
  let arg5 : BitVec 32 := Scf.iv c0_i32_149 c1_i32_150 k0_t1
  let c8_i32_153 : BitVec 32 := 8#32
  let v115 : BitVec 32 := Scalar.muli arg5 c8_i32_153
  v115
def k0_off7 (k0_t1 : Fin k0_t1_loop.trips) : Fin 2 → Nat :=
  let c0_i32_149 : BitVec 32 := 0#32
  let c1_i32_150 : BitVec 32 := 1#32
  let arg5 : BitVec 32 := Scf.iv c0_i32_149 c1_i32_150 k0_t1
  let c3_i32_152 : BitVec 32 := 3#32
  let v114 : BitVec 32 := Scalar.remsi arg5 c3_i32_152
  let c0_i32_155 : BitVec 32 := 0#32
  ![v114.toNat, 0]
def k0_off8 (k0_t1 : Fin k0_t1_loop.trips) : Fin 4 → Nat :=
  let c0_i32_149 : BitVec 32 := 0#32
  let c1_i32_150 : BitVec 32 := 1#32
  let arg5 : BitVec 32 := Scf.iv c0_i32_149 c1_i32_150 k0_t1
  let c3_i32_152 : BitVec 32 := 3#32
  let v114 : BitVec 32 := Scalar.remsi arg5 c3_i32_152
  let c0_i32_156 : BitVec 32 := 0#32
  let c0_i32_157 : BitVec 32 := 0#32
  let c0_i32_158 : BitVec 32 := 0#32
  ![v114.toNat, 0, 0, 0]
def k0_off9 (k0_t1 : Fin k0_t1_loop.trips) (c0_i32_154 : BitVec 32) : Fin 3 → Nat :=
  let c0_i32_149 : BitVec 32 := 0#32
  let c1_i32_150 : BitVec 32 := 1#32
  let arg5 : BitVec 32 := Scf.iv c0_i32_149 c1_i32_150 k0_t1
  let c8_i32_153 : BitVec 32 := 8#32
  let v115 : BitVec 32 := Scalar.muli arg5 c8_i32_153
  let v116 : BitVec 32 := v115
  let v117 : BitVec 32 := Scalar.addi v116 c0_i32_154
  let c0_i32_162 : BitVec 32 := 0#32
  let c0_i32_163 : BitVec 32 := 0#32
  ![v117.toNat, 0, 0]
def k0_mult14 (k0_t1 : Fin k0_t1_loop.trips) : BitVec 32 :=
  let c0_i32_149 : BitVec 32 := 0#32
  let c1_i32_150 : BitVec 32 := 1#32
  let arg5 : BitVec 32 := Scf.iv c0_i32_149 c1_i32_150 k0_t1
  let c8_i32_165 : BitVec 32 := 8#32
  let v125 : BitVec 32 := Scalar.muli arg5 c8_i32_165
  v125
def k0_off10 (k0_t1 : Fin k0_t1_loop.trips) : Fin 2 → Nat :=
  let c0_i32_149 : BitVec 32 := 0#32
  let c1_i32_150 : BitVec 32 := 1#32
  let arg5 : BitVec 32 := Scf.iv c0_i32_149 c1_i32_150 k0_t1
  let c3_i32_164 : BitVec 32 := 3#32
  let v124 : BitVec 32 := Scalar.remsi arg5 c3_i32_164
  let c1_i32_167 : BitVec 32 := 1#32
  ![v124.toNat, 1]
def k0_mult15 (k0_t1 : Fin k0_t1_loop.trips) : BitVec 32 :=
  let c0_i32_149 : BitVec 32 := 0#32
  let c1_i32_150 : BitVec 32 := 1#32
  let arg5 : BitVec 32 := Scf.iv c0_i32_149 c1_i32_150 k0_t1
  let c8_i32_177 : BitVec 32 := 8#32
  let v135 : BitVec 32 := Scalar.muli arg5 c8_i32_177
  v135
def k0_off11 (k0_t1 : Fin k0_t1_loop.trips) : Fin 2 → Nat :=
  let c0_i32_149 : BitVec 32 := 0#32
  let c1_i32_150 : BitVec 32 := 1#32
  let arg5 : BitVec 32 := Scf.iv c0_i32_149 c1_i32_150 k0_t1
  let c3_i32_176 : BitVec 32 := 3#32
  let v134 : BitVec 32 := Scalar.remsi arg5 c3_i32_176
  let c2_i32_179 : BitVec 32 := 2#32
  ![v134.toNat, 2]
def k0_mult16 (k0_t1 : Fin k0_t1_loop.trips) : BitVec 32 :=
  let c0_i32_149 : BitVec 32 := 0#32
  let c1_i32_150 : BitVec 32 := 1#32
  let arg5 : BitVec 32 := Scf.iv c0_i32_149 c1_i32_150 k0_t1
  let c8_i32_189 : BitVec 32 := 8#32
  let v145 : BitVec 32 := Scalar.muli arg5 c8_i32_189
  v145
def k0_off12 (k0_t1 : Fin k0_t1_loop.trips) : Fin 2 → Nat :=
  let c0_i32_149 : BitVec 32 := 0#32
  let c1_i32_150 : BitVec 32 := 1#32
  let arg5 : BitVec 32 := Scf.iv c0_i32_149 c1_i32_150 k0_t1
  let c3_i32_188 : BitVec 32 := 3#32
  let v144 : BitVec 32 := Scalar.remsi arg5 c3_i32_188
  let c3_i32_191 : BitVec 32 := 3#32
  ![v144.toNat, 3]
def k0_off13 (k0_t1 : Fin k0_t1_loop.trips) : Fin 3 → Nat :=
  let c0_i32_149 : BitVec 32 := 0#32
  let c1_i32_150 : BitVec 32 := 1#32
  let arg5 : BitVec 32 := Scf.iv c0_i32_149 c1_i32_150 k0_t1
  let v582 : Index := Scalar.indexCast arg5
  let c0_346 : Index := 0#32
  let c0_347 : Index := 0#32
  ![v582.toNat, 0, 0]
def k0_cond1 (k0_t1 : Fin k0_t1_loop.trips) : BitVec 1 :=
  let c0_i32_149 : BitVec 32 := 0#32
  let c1_i32_150 : BitVec 32 := 1#32
  let arg5 : BitVec 32 := Scf.iv c0_i32_149 c1_i32_150 k0_t1
  let c3_i32_348 : BitVec 32 := 3#32
  let v584 : BitVec 32 := Scalar.addi arg5 c3_i32_348
  let c32_i32_349 : BitVec 32 := 32#32
  let v585 : BitVec 1 := Scalar.cmpi .slt v584 c32_i32_349
  let v586 : BitVec 32 := Scalar.extui v585
  let c0_i32_350 : BitVec 32 := 0#32
  let v587 : BitVec 1 := Scalar.cmpi .ne v586 c0_i32_350
  v587

def k0_mult17 (k0_t1 : Fin k0_t1_loop.trips) : BitVec 32 :=
  let c0_i32_149 : BitVec 32 := 0#32
  let c1_i32_150 : BitVec 32 := 1#32
  let arg5 : BitVec 32 := Scf.iv c0_i32_149 c1_i32_150 k0_t1
  let c3_i32_351 : BitVec 32 := 3#32
  let v588 : BitVec 32 := Scalar.addi arg5 c3_i32_351
  let c8_i32_353 : BitVec 32 := 8#32
  let v590 : BitVec 32 := Scalar.muli v588 c8_i32_353
  v590
def k0_off14 (k0_t1 : Fin k0_t1_loop.trips) : Fin 2 → Nat :=
  let c0_i32_149 : BitVec 32 := 0#32
  let c1_i32_150 : BitVec 32 := 1#32
  let arg5 : BitVec 32 := Scf.iv c0_i32_149 c1_i32_150 k0_t1
  let c3_i32_351 : BitVec 32 := 3#32
  let v588 : BitVec 32 := Scalar.addi arg5 c3_i32_351
  let c3_i32_352 : BitVec 32 := 3#32
  let v589 : BitVec 32 := Scalar.remsi v588 c3_i32_352
  let c0_i32_355 : BitVec 32 := 0#32
  ![v589.toNat, 0]
def k0_off15 (k0_t1 : Fin k0_t1_loop.trips) : Fin 4 → Nat :=
  let c0_i32_149 : BitVec 32 := 0#32
  let c1_i32_150 : BitVec 32 := 1#32
  let arg5 : BitVec 32 := Scf.iv c0_i32_149 c1_i32_150 k0_t1
  let c3_i32_351 : BitVec 32 := 3#32
  let v588 : BitVec 32 := Scalar.addi arg5 c3_i32_351
  let c3_i32_352 : BitVec 32 := 3#32
  let v589 : BitVec 32 := Scalar.remsi v588 c3_i32_352
  let c0_i32_356 : BitVec 32 := 0#32
  let c0_i32_357 : BitVec 32 := 0#32
  let c0_i32_358 : BitVec 32 := 0#32
  ![v589.toNat, 0, 0, 0]
def k0_off16 (k0_t1 : Fin k0_t1_loop.trips) (c0_i32_354 : BitVec 32) : Fin 3 → Nat :=
  let c0_i32_149 : BitVec 32 := 0#32
  let c1_i32_150 : BitVec 32 := 1#32
  let arg5 : BitVec 32 := Scf.iv c0_i32_149 c1_i32_150 k0_t1
  let c3_i32_351 : BitVec 32 := 3#32
  let v588 : BitVec 32 := Scalar.addi arg5 c3_i32_351
  let c8_i32_353 : BitVec 32 := 8#32
  let v590 : BitVec 32 := Scalar.muli v588 c8_i32_353
  let v591 : BitVec 32 := v590
  let v592 : BitVec 32 := Scalar.addi v591 c0_i32_354
  let c0_i32_362 : BitVec 32 := 0#32
  let c0_i32_363 : BitVec 32 := 0#32
  ![v592.toNat, 0, 0]
def k0_mult18 (k0_t1 : Fin k0_t1_loop.trips) : BitVec 32 :=
  let c0_i32_149 : BitVec 32 := 0#32
  let c1_i32_150 : BitVec 32 := 1#32
  let arg5 : BitVec 32 := Scf.iv c0_i32_149 c1_i32_150 k0_t1
  let c3_i32_351 : BitVec 32 := 3#32
  let v588 : BitVec 32 := Scalar.addi arg5 c3_i32_351
  let c8_i32_365 : BitVec 32 := 8#32
  let v600 : BitVec 32 := Scalar.muli v588 c8_i32_365
  v600
def k0_off17 (k0_t1 : Fin k0_t1_loop.trips) : Fin 2 → Nat :=
  let c0_i32_149 : BitVec 32 := 0#32
  let c1_i32_150 : BitVec 32 := 1#32
  let arg5 : BitVec 32 := Scf.iv c0_i32_149 c1_i32_150 k0_t1
  let c3_i32_351 : BitVec 32 := 3#32
  let v588 : BitVec 32 := Scalar.addi arg5 c3_i32_351
  let c3_i32_364 : BitVec 32 := 3#32
  let v599 : BitVec 32 := Scalar.remsi v588 c3_i32_364
  let c1_i32_367 : BitVec 32 := 1#32
  ![v599.toNat, 1]
def k0_mult19 (k0_t1 : Fin k0_t1_loop.trips) : BitVec 32 :=
  let c0_i32_149 : BitVec 32 := 0#32
  let c1_i32_150 : BitVec 32 := 1#32
  let arg5 : BitVec 32 := Scf.iv c0_i32_149 c1_i32_150 k0_t1
  let c3_i32_351 : BitVec 32 := 3#32
  let v588 : BitVec 32 := Scalar.addi arg5 c3_i32_351
  let c8_i32_377 : BitVec 32 := 8#32
  let v610 : BitVec 32 := Scalar.muli v588 c8_i32_377
  v610
def k0_off18 (k0_t1 : Fin k0_t1_loop.trips) : Fin 2 → Nat :=
  let c0_i32_149 : BitVec 32 := 0#32
  let c1_i32_150 : BitVec 32 := 1#32
  let arg5 : BitVec 32 := Scf.iv c0_i32_149 c1_i32_150 k0_t1
  let c3_i32_351 : BitVec 32 := 3#32
  let v588 : BitVec 32 := Scalar.addi arg5 c3_i32_351
  let c3_i32_376 : BitVec 32 := 3#32
  let v609 : BitVec 32 := Scalar.remsi v588 c3_i32_376
  let c2_i32_379 : BitVec 32 := 2#32
  ![v609.toNat, 2]
def k0_mult20 (k0_t1 : Fin k0_t1_loop.trips) : BitVec 32 :=
  let c0_i32_149 : BitVec 32 := 0#32
  let c1_i32_150 : BitVec 32 := 1#32
  let arg5 : BitVec 32 := Scf.iv c0_i32_149 c1_i32_150 k0_t1
  let c3_i32_351 : BitVec 32 := 3#32
  let v588 : BitVec 32 := Scalar.addi arg5 c3_i32_351
  let c8_i32_389 : BitVec 32 := 8#32
  let v620 : BitVec 32 := Scalar.muli v588 c8_i32_389
  v620
def k0_off19 (k0_t1 : Fin k0_t1_loop.trips) : Fin 2 → Nat :=
  let c0_i32_149 : BitVec 32 := 0#32
  let c1_i32_150 : BitVec 32 := 1#32
  let arg5 : BitVec 32 := Scf.iv c0_i32_149 c1_i32_150 k0_t1
  let c3_i32_351 : BitVec 32 := 3#32
  let v588 : BitVec 32 := Scalar.addi arg5 c3_i32_351
  let c3_i32_388 : BitVec 32 := 3#32
  let v619 : BitVec 32 := Scalar.remsi v588 c3_i32_388
  let c3_i32_391 : BitVec 32 := 3#32
  ![v619.toNat, 3]
abbrev stage0_0 : Fin 1 → Memref sig .tc .vmem S1x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S256x4096x128 : Shape := ⟨3, ![256, 4096, 128]⟩
abbrev S128x1 : Shape := ⟨2, ![128, 1]⟩
abbrev S128 : Shape := ⟨1, ![128]⟩
abbrev S256x4096 : Shape := ⟨2, ![256, 4096]⟩
abbrev S_ : Shape := ⟨0, ![]⟩
abbrev S256 : Shape := ⟨1, ![256]⟩
abbrev S256x1 : Shape := ⟨2, ![256, 1]⟩
abbrev S256x128 : Shape := ⟨2, ![256, 128]⟩

abbrev nBuf : Space → Nat
  | .hbm => 20
  | .vmem => 0
  | .smem => 0
  | _ => 0

abbrev bufTy : (tb : Table) → Fin (tcTables nBuf tb) → BufTy
  | .hbm, ⟨0, _⟩ => ⟨S256x4096x128, .f32⟩
  | .hbm, ⟨1, _⟩ => ⟨S128x1, .f32⟩
  | .hbm, ⟨2, _⟩ => ⟨S256x4096x128, .f32⟩
  | .hbm, ⟨3, _⟩ => ⟨S128, .f32⟩
  | .hbm, ⟨4, _⟩ => ⟨S256x4096, .f32⟩
  | .hbm, ⟨5, _⟩ => ⟨S_, .f32⟩
  | .hbm, ⟨6, _⟩ => ⟨S256, .f32⟩
  | .hbm, ⟨7, _⟩ => ⟨S_, .f32⟩
  | .hbm, ⟨8, _⟩ => ⟨S256, .f32⟩
  | .hbm, ⟨9, _⟩ => ⟨S256, .f32⟩
  | .hbm, ⟨10, _⟩ => ⟨S256x1, .f32⟩
  | .hbm, ⟨11, _⟩ => ⟨S256x4096, .f32⟩
  | .hbm, ⟨12, _⟩ => ⟨S256x4096, .f32⟩
  | .hbm, ⟨13, _⟩ => ⟨S256x4096, .f32⟩
  | .hbm, ⟨14, _⟩ => ⟨S_, .f32⟩
  | .hbm, ⟨15, _⟩ => ⟨S256, .f32⟩
  | .hbm, ⟨16, _⟩ => ⟨S256x1, .f32⟩
  | .hbm, ⟨17, _⟩ => ⟨S256x4096, .f32⟩
  | .hbm, ⟨18, _⟩ => ⟨S256x4096, .f32⟩
  | .hbm, ⟨19, _⟩ => ⟨S256x128, .f32⟩
  | _, _ => ⟨S256x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Proof.Names.lean ====
/-
  The names of the pieces the kernel moves. The streamed array `x` is cut into 32 blocks of 8 batch rows; a block is
  fetched by four copies of 2 rows each. The VMEM buffer has three slots of 8 rows, cut into the same quarters, and
  each quarter of each slot has a DMA semaphore of its own. Here: the three kinds of piece, the closed forms of the
  offsets the kernel computes for them, and the equations that turn a slice of the kernel into the piece's name.
-/
module

public import proofs.«01_k».proof.Defs
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Ring
public import Idealize.ShloMosaic.Lib.Affine
public import Idealize.ShloMosaic.Lib.Tactic

@[expose] public section

noncomputable section

namespace Cert.Proof.Stream

open Cert.KernelIdeal Cert.KernelIdeal.Gen
open Idealize.ShloMosaic Idealize.ShloMosaic.TcCoe Idealize.ShloMosaic.Tactic

/-- The streamed array, as the body is handed it. -/
abbrev xM : Memref sig .tc .hbm S256x4096x128 .f32 := Memref.whole main_arg0
/-- The buffer of three slots. -/
abbrev bufM : Memref sig .tc .vmem S3x8x4096x128 .f32 := Memref.whole cc0_scratch0

/-- Where quarter `q` of block `b` begins in the array. -/
abbrev srcOff (b : Fin 32) (q : Fin 4) : Fin 3 → Nat := ![8 * b.val + 2 * q.val, 0, 0]
theorem srcOff_inb (b : Fin 32) (q : Fin 4) : ∀ a, srcOff b q a + S2x4096x128.size a ≤ S256x4096x128.size a := by
  have := b.isLt; have := q.isLt; intro a; fin_cases a
  · show 8 * b.val + 2 * q.val + 2 ≤ 256; omega
  · show 0 + 4096 ≤ 4096; omega
  · show 0 + 128 ≤ 128; omega
/-- Where slot `s` begins in the buffer. -/
abbrev slotOff (s : Fin 3) : Fin 4 → Nat := ![s.val, 0, 0, 0]
theorem slotOff_inb (s : Fin 3) : ∀ a, slotOff s a + S1x8x4096x128.size a ≤ S3x8x4096x128.size a := by
  have := s.isLt; intro a; fin_cases a
  · show s.val + 1 ≤ 3; omega
  · show 0 + 8 ≤ 8; omega
  · show 0 + 4096 ≤ 4096; omega
  · show 0 + 128 ≤ 128; omega
/-- Where quarter `q` begins in a slot. -/
abbrev quartOff (q : Fin 4) : Fin 3 → Nat := ![2 * q.val, 0, 0]
theorem quartOff_inb (q : Fin 4) : ∀ a, quartOff q a + S2x4096x128.size a ≤ S8x4096x128.size a := by
  have := q.isLt; intro a; fin_cases a
  · show 2 * q.val + 2 ≤ 8; omega
  · show 0 + 4096 ≤ 4096; omega
  · show 0 + 128 ≤ 128; omega
/-- Where the semaphore of quarter `q` of slot `s` sits among the twelve. -/
abbrev semOff (s : Fin 3) (q : Fin 4) : Fin 2 → Nat := ![s.val, q.val]
theorem semOff_inb (s : Fin 3) (q : Fin 4) : ∀ a, semOff s q a + S1x1.size a ≤ S3x4.size a := by
  have := s.isLt; have := q.isLt; intro a; fin_cases a
  · show s.val + 1 ≤ 3; omega
  · show q.val + 1 ≤ 4; omega

/-- Quarter `q` of block `b` of the streamed array. -/
def src (b : Fin 32) (q : Fin 4) : Memref sig .tc .hbm S2x4096x128 .f32 :=
  xM.slice (Rect.unit (s := S256x4096x128) (srcOff b q) S2x4096x128.size (srcOff_inb b q)) (fun _ => rfl)
/-- Slot `s` of the buffer. -/
def slot (s : Fin 3) : Memref sig .tc .vmem S8x4096x128 .f32 :=
  (bufM.slice (Rect.unit (s := S3x8x4096x128) (slotOff s) S1x8x4096x128.size (slotOff_inb s)) (fun _ => rfl)).squeeze S8x4096x128 squeezes_S1x8x4096x128_S8x4096x128
/-- Quarter `q` of slot `s`. -/
def quart (s : Fin 3) (q : Fin 4) : Memref sig .tc .vmem S2x4096x128 .f32 :=
  (slot s).slice (Rect.unit (s := S8x4096x128) (quartOff q) S2x4096x128.size (quartOff_inb q)) (fun _ => rfl)
/-- The DMA semaphore of quarter `q` of slot `s`. -/
def csm (s : Fin 3) (q : Fin 4) : DmaSems sig S_ :=
  (cc0_scratch1.slice (Rect.unit (s := S3x4) (semOff s q) S1x1.size (semOff_inb s q))).squeeze S_ squeezes_S1x1_S_

instance (b : Fin 32) (q : Fin 4) : ClosedOff (srcOff b q) := ⟨srcOff b q, rfl⟩
instance (s : Fin 3) : ClosedOff (slotOff s) := ⟨slotOff s, rfl⟩
instance (q : Fin 4) : ClosedOff (quartOff q) := ⟨quartOff q, rfl⟩

/-! ## The offsets the kernel computes, in closed form -/

section Chain
open Affine

theorem trips_eq : k0_t1_loop.trips = 32 := by decide
theorem trip_lt (k : Fin k0_t1_loop.trips) : k.val < 32 := Nat.lt_of_lt_of_eq k.isLt trips_eq

theorem isInt_iv (k : Fin k0_t1_loop.trips) : IsInt (Scf.iv 0#32 1#32 k.val) k.val := by
  have := trip_lt k
  exact iv (e := k.val) (ofNat (e := 0) 0 ⟨rfl, by decide⟩) (ofNat (e := 1) 1 ⟨rfl, by decide⟩) k.val ⟨by omega, by omega, by omega⟩
theorem isInt_next (k : Fin k0_t1_loop.trips) : IsInt (Scalar.addi (Scf.iv 0#32 1#32 k.val) 3#32) (k.val + 3 : Nat) := by
  have := trip_lt k
  exact addi (e := (k.val + 3 : Nat)) (isInt_iv k) (ofNat (e := 3) 3 ⟨rfl, by decide⟩) ⟨by push_cast; omega, by omega, by push_cast; omega⟩
theorem isInt_slot (k : Fin k0_t1_loop.trips) : IsInt (Scalar.remsi (Scf.iv 0#32 1#32 k.val) 3#32) (k.val % 3 : Nat) :=
  remsi (e := (k.val % 3 : Nat)) (isInt_iv k) (ofNat (e := 3) 3 ⟨rfl, by decide⟩) ⟨by omega, by omega, by omega⟩
theorem isInt_slotNext (k : Fin k0_t1_loop.trips) :
    IsInt (Scalar.remsi (Scalar.addi (Scf.iv 0#32 1#32 k.val) 3#32) 3#32) ((k.val + 3) % 3 : Nat) :=
  remsi (e := ((k.val + 3) % 3 : Nat)) (isInt_next k) (ofNat (e := 3) 3 ⟨rfl, by decide⟩) ⟨by push_cast; omega, by omega, by omega⟩
/-- The first row of quarter `q` of block `n`, as a word. -/
theorem isInt_row {w : BitVec 32} {n : Nat} (hw : IsInt w n) (hn : n < 64) (q : Fin 4) :
    IsInt (Scalar.addi (Scalar.muli w 8#32) (BitVec.ofNat 32 (2 * q.val))) (8 * n + 2 * q.val : Nat) := by
  have := q.isLt
  have h : IsInt (Scalar.muli w 8#32) (8 * n : Nat) :=
    muli (e := (8 * n : Nat)) hw (ofNat (e := 8) 8 ⟨rfl, by decide⟩) ⟨by push_cast; omega, by omega, by push_cast; omega⟩
  exact addi (e := (8 * n + 2 * q.val : Nat)) h (ofNat (e := (2 * q.val : Nat)) _ ⟨rfl, by omega⟩) ⟨by push_cast; omega, by omega, by push_cast; omega⟩

theorem off7_eq (k : Fin k0_t1_loop.trips) : k0_off7 k = semOff (Ring.sl 3 k.val) 0 :=
  vec_cons (isInt_slot k) (by simp [Ring.sl, Fin.ofNat]) rfl
theorem off10_eq (k : Fin k0_t1_loop.trips) : k0_off10 k = semOff (Ring.sl 3 k.val) 1 :=
  vec_cons (isInt_slot k) (by simp [Ring.sl, Fin.ofNat]) rfl
theorem off11_eq (k : Fin k0_t1_loop.trips) : k0_off11 k = semOff (Ring.sl 3 k.val) 2 :=
  vec_cons (isInt_slot k) (by simp [Ring.sl, Fin.ofNat]) rfl
theorem off12_eq (k : Fin k0_t1_loop.trips) : k0_off12 k = semOff (Ring.sl 3 k.val) 3 :=
  vec_cons (isInt_slot k) (by simp [Ring.sl, Fin.ofNat]) rfl
theorem off8_eq (k : Fin k0_t1_loop.trips) : k0_off8 k = slotOff (Ring.sl 3 k.val) :=
  vec_cons (isInt_slot k) (by simp [Ring.sl, Fin.ofNat]) rfl
theorem off9_eq (k : Fin k0_t1_loop.trips) (q : Fin 4) : k0_off9 k (BitVec.ofNat 32 (2 * q.val)) = srcOff (Ring.bk 32 k.val) q :=
  vec_cons (isInt_row (isInt_iv k) (Nat.lt_trans (trip_lt k) (by decide)) q) (by rw [Ring.bk_val (trip_lt k)]) rfl
theorem off14_eq (k : Fin k0_t1_loop.trips) : k0_off14 k = semOff (Ring.sl 3 k.val) 0 :=
  vec_cons (isInt_slotNext k) (by simp [Ring.sl, Fin.ofNat]) rfl
theorem off17_eq (k : Fin k0_t1_loop.trips) : k0_off17 k = semOff (Ring.sl 3 k.val) 1 :=
  vec_cons (isInt_slotNext k) (by simp [Ring.sl, Fin.ofNat]) rfl
theorem off18_eq (k : Fin k0_t1_loop.trips) : k0_off18 k = semOff (Ring.sl 3 k.val) 2 :=
  vec_cons (isInt_slotNext k) (by simp [Ring.sl, Fin.ofNat]) rfl
theorem off19_eq (k : Fin k0_t1_loop.trips) : k0_off19 k = semOff (Ring.sl 3 k.val) 3 :=
  vec_cons (isInt_slotNext k) (by simp [Ring.sl, Fin.ofNat]) rfl
theorem off15_eq (k : Fin k0_t1_loop.trips) : k0_off15 k = slotOff (Ring.sl 3 k.val) :=
  vec_cons (isInt_slotNext k) (by simp [Ring.sl, Fin.ofNat]) rfl
theorem off16_eq (k : Fin k0_t1_loop.trips) (h : k.val + 3 < 32) (q : Fin 4) :
    k0_off16 k (BitVec.ofNat 32 (2 * q.val)) = srcOff (Ring.bk 32 (k.val + 3)) q :=
  vec_cons (isInt_row (isInt_next k) (Nat.lt_trans h (by decide)) q) (by rw [Ring.bk_val h]) rfl
/-- Where trip `k` stores: block `k` of the result. -/
theorem off13_eq (k : Fin k0_t1_loop.trips) : k0_off13 k = ![k.val, 0, 0] :=
  vec_cons (indexCast (isInt_iv k)) rfl rfl
instance (k : Fin k0_t1_loop.trips) : ClosedOff (k0_off13 k) := ⟨![k.val, 0, 0], off13_eq k⟩

/-- A trip starts another block exactly when there is one. -/
theorem cond_of_lt : ∀ k : Fin k0_t1_loop.trips, k.val + 3 < 32 → k0_cond1 k = 1#1 := by decide
theorem cond_of_le : ∀ k : Fin k0_t1_loop.trips, ¬ k.val + 3 < 32 → ¬ k0_cond1 k = 1#1 := by decide

end Chain

/-! ## The kernel's slices are these pieces -/

theorem csm_of {off : Fin 2 → Nat} {s : Fin 3} {q : Fin 4} (e : off = semOff s q) (hh) :
    (cc0_scratch1.slice (Rect.unit (s := S3x4) off S1x1.size hh)).squeeze S_ squeezes_S1x1_S_ = csm s q :=
  congrArg (fun A : DmaSems sig S1x1 => A.squeeze S_ squeezes_S1x1_S_) (SemArray.slice_unit_congr _ e _ _)
theorem slot_of {off : Fin 4 → Nat} {s : Fin 3} (e : off = slotOff s) (hh hs) :
    (bufM.slice (Rect.unit (s := S3x8x4096x128) off S1x8x4096x128.size hh) hs).squeeze S8x4096x128 squeezes_S1x8x4096x128_S8x4096x128 = slot s :=
  congrArg (fun M : Memref sig .tc .vmem S1x8x4096x128 .f32 => M.squeeze S8x4096x128 squeezes_S1x8x4096x128_S8x4096x128) (Memref.slice_unit_congr _ e _ _ _ _)
theorem quart_of {off : Fin 3 → Nat} (s : Fin 3) {q : Fin 4} (e : off = quartOff q) (hh hs) :
    (slot s).slice (Rect.unit (s := S8x4096x128) off S2x4096x128.size hh) hs = quart s q := Memref.slice_unit_congr _ e _ _ _ (fun _ => rfl)
theorem src_of {off : Fin 3 → Nat} {b : Fin 32} {q : Fin 4} (e : off = srcOff b q) (hh hs) :
    xM.slice (Rect.unit (s := S256x4096x128) off S2x4096x128.size hh) hs = src b q := Memref.slice_unit_congr _ e _ _ _ (fun _ => rfl)

/-! The quarters of a slot, at their literal offsets. -/
@[sl_canon] theorem quart0 (s : Fin 3) (hh hs) : (slot s).slice (Rect.unit (s := S8x4096x128) ![0, 0, 0] S2x4096x128.size hh) hs = quart s 0 := quart_of s (by decide) _ _
@[sl_canon] theorem quart1 (s : Fin 3) (hh hs) : (slot s).slice (Rect.unit (s := S8x4096x128) ![2, 0, 0] S2x4096x128.size hh) hs = quart s 1 := quart_of s (by decide) _ _
@[sl_canon] theorem quart2 (s : Fin 3) (hh hs) : (slot s).slice (Rect.unit (s := S8x4096x128) ![4, 0, 0] S2x4096x128.size hh) hs = quart s 2 := quart_of s (by decide) _ _
@[sl_canon] theorem quart3 (s : Fin 3) (hh hs) : (slot s).slice (Rect.unit (s := S8x4096x128) ![6, 0, 0] S2x4096x128.size hh) hs = quart s 3 := quart_of s (by decide) _ _

/-! Before the loop: blocks 0, 1, 2 into slots 0, 1, 2. -/
@[sl_canon] theorem slotL0 (hh hs) : (bufM.slice (Rect.unit (s := S3x8x4096x128) (k0_off2 0#32) S1x8x4096x128.size hh) hs).squeeze S8x4096x128 squeezes_S1x8x4096x128_S8x4096x128 = slot 0 := slot_of (by decide) _ _
@[sl_canon] theorem slotL1 (hh hs) : (bufM.slice (Rect.unit (s := S3x8x4096x128) (k0_off2 1#32) S1x8x4096x128.size hh) hs).squeeze S8x4096x128 squeezes_S1x8x4096x128_S8x4096x128 = slot 1 := slot_of (by decide) _ _
@[sl_canon] theorem slotL2 (hh hs) : (bufM.slice (Rect.unit (s := S3x8x4096x128) (k0_off2 2#32) S1x8x4096x128.size hh) hs).squeeze S8x4096x128 squeezes_S1x8x4096x128_S8x4096x128 = slot 2 := slot_of (by decide) _ _
@[sl_canon] theorem semL00 (hh) : (cc0_scratch1.slice (Rect.unit (s := S3x4) (k0_off1 0#32) S1x1.size hh)).squeeze S_ squeezes_S1x1_S_ = csm 0 0 := csm_of (by decide) _
@[sl_canon] theorem semL01 (hh) : (cc0_scratch1.slice (Rect.unit (s := S3x4) (k0_off4 0#32) S1x1.size hh)).squeeze S_ squeezes_S1x1_S_ = csm 0 1 := csm_of (by decide) _
@[sl_canon] theorem semL02 (hh) : (cc0_scratch1.slice (Rect.unit (s := S3x4) (k0_off5 0#32) S1x1.size hh)).squeeze S_ squeezes_S1x1_S_ = csm 0 2 := csm_of (by decide) _
@[sl_canon] theorem semL03 (hh) : (cc0_scratch1.slice (Rect.unit (s := S3x4) (k0_off6 0#32) S1x1.size hh)).squeeze S_ squeezes_S1x1_S_ = csm 0 3 := csm_of (by decide) _
@[sl_canon] theorem semL10 (hh) : (cc0_scratch1.slice (Rect.unit (s := S3x4) (k0_off1 1#32) S1x1.size hh)).squeeze S_ squeezes_S1x1_S_ = csm 1 0 := csm_of (by decide) _
@[sl_canon] theorem semL11 (hh) : (cc0_scratch1.slice (Rect.unit (s := S3x4) (k0_off4 1#32) S1x1.size hh)).squeeze S_ squeezes_S1x1_S_ = csm 1 1 := csm_of (by decide) _
@[sl_canon] theorem semL12 (hh) : (cc0_scratch1.slice (Rect.unit (s := S3x4) (k0_off5 1#32) S1x1.size hh)).squeeze S_ squeezes_S1x1_S_ = csm 1 2 := csm_of (by decide) _
@[sl_canon] theorem semL13 (hh) : (cc0_scratch1.slice (Rect.unit (s := S3x4) (k0_off6 1#32) S1x1.size hh)).squeeze S_ squeezes_S1x1_S_ = csm 1 3 := csm_of (by decide) _
@[sl_canon] theorem semL20 (hh) : (cc0_scratch1.slice (Rect.unit (s := S3x4) (k0_off1 2#32) S1x1.size hh)).squeeze S_ squeezes_S1x1_S_ = csm 2 0 := csm_of (by decide) _
@[sl_canon] theorem semL21 (hh) : (cc0_scratch1.slice (Rect.unit (s := S3x4) (k0_off4 2#32) S1x1.size hh)).squeeze S_ squeezes_S1x1_S_ = csm 2 1 := csm_of (by decide) _
@[sl_canon] theorem semL22 (hh) : (cc0_scratch1.slice (Rect.unit (s := S3x4) (k0_off5 2#32) S1x1.size hh)).squeeze S_ squeezes_S1x1_S_ = csm 2 2 := csm_of (by decide) _
@[sl_canon] theorem semL23 (hh) : (cc0_scratch1.slice (Rect.unit (s := S3x4) (k0_off6 2#32) S1x1.size hh)).squeeze S_ squeezes_S1x1_S_ = csm 2 3 := csm_of (by decide) _
@[sl_canon] theorem srcL00 (hh hs) : xM.slice (Rect.unit (s := S256x4096x128) (k0_off3 0#32 0#32) S2x4096x128.size hh) hs = src 0 0 := src_of (by decide) _ _
@[sl_canon] theorem srcL01 (hh hs) : xM.slice (Rect.unit (s := S256x4096x128) (k0_off3 0#32 2#32) S2x4096x128.size hh) hs = src 0 1 := src_of (by decide) _ _
@[sl_canon] theorem srcL02 (hh hs) : xM.slice (Rect.unit (s := S256x4096x128) (k0_off3 0#32 4#32) S2x4096x128.size hh) hs = src 0 2 := src_of (by decide) _ _
@[sl_canon] theorem srcL03 (hh hs) : xM.slice (Rect.unit (s := S256x4096x128) (k0_off3 0#32 6#32) S2x4096x128.size hh) hs = src 0 3 := src_of (by decide) _ _
@[sl_canon] theorem srcL10 (hh hs) : xM.slice (Rect.unit (s := S256x4096x128) (k0_off3 8#32 0#32) S2x4096x128.size hh) hs = src 1 0 := src_of (by decide) _ _
@[sl_canon] theorem srcL11 (hh hs) : xM.slice (Rect.unit (s := S256x4096x128) (k0_off3 8#32 2#32) S2x4096x128.size hh) hs = src 1 1 := src_of (by decide) _ _
@[sl_canon] theorem srcL12 (hh hs) : xM.slice (Rect.unit (s := S256x4096x128) (k0_off3 8#32 4#32) S2x4096x128.size hh) hs = src 1 2 := src_of (by decide) _ _
@[sl_canon] theorem srcL13 (hh hs) : xM.slice (Rect.unit (s := S256x4096x128) (k0_off3 8#32 6#32) S2x4096x128.size hh) hs = src 1 3 := src_of (by decide) _ _
@[sl_canon] theorem srcL20 (hh hs) : xM.slice (Rect.unit (s := S256x4096x128) (k0_off3 16#32 0#32) S2x4096x128.size hh) hs = src 2 0 := src_of (by decide) _ _
@[sl_canon] theorem srcL21 (hh hs) : xM.slice (Rect.unit (s := S256x4096x128) (k0_off3 16#32 2#32) S2x4096x128.size hh) hs = src 2 1 := src_of (by decide) _ _
@[sl_canon] theorem srcL22 (hh hs) : xM.slice (Rect.unit (s := S256x4096x128) (k0_off3 16#32 4#32) S2x4096x128.size hh) hs = src 2 2 := src_of (by decide) _ _
@[sl_canon] theorem srcL23 (hh hs) : xM.slice (Rect.unit (s := S256x4096x128) (k0_off3 16#32 6#32) S2x4096x128.size hh) hs = src 2 3 := src_of (by decide) _ _

/-! Trip `k`: slot `k % 3`, block `k` awaited, block `k + 3` started into the same slot. -/
variable (k : Fin k0_t1_loop.trips)
@[sl_canon] theorem slotW (hh hs) : (bufM.slice (Rect.unit (s := S3x8x4096x128) (k0_off8 k) S1x8x4096x128.size hh) hs).squeeze S8x4096x128 squeezes_S1x8x4096x128_S8x4096x128 = slot (Ring.sl 3 k.val) := slot_of (off8_eq k) _ _
@[sl_canon] theorem slotI (hh hs) : (bufM.slice (Rect.unit (s := S3x8x4096x128) (k0_off15 k) S1x8x4096x128.size hh) hs).squeeze S8x4096x128 squeezes_S1x8x4096x128_S8x4096x128 = slot (Ring.sl 3 k.val) := slot_of (off15_eq k) _ _
@[sl_canon] theorem semW0 (hh) : (cc0_scratch1.slice (Rect.unit (s := S3x4) (k0_off7 k) S1x1.size hh)).squeeze S_ squeezes_S1x1_S_ = csm (Ring.sl 3 k.val) 0 := csm_of (off7_eq k) _
@[sl_canon] theorem semW1 (hh) : (cc0_scratch1.slice (Rect.unit (s := S3x4) (k0_off10 k) S1x1.size hh)).squeeze S_ squeezes_S1x1_S_ = csm (Ring.sl 3 k.val) 1 := csm_of (off10_eq k) _
@[sl_canon] theorem semW2 (hh) : (cc0_scratch1.slice (Rect.unit (s := S3x4) (k0_off11 k) S1x1.size hh)).squeeze S_ squeezes_S1x1_S_ = csm (Ring.sl 3 k.val) 2 := csm_of (off11_eq k) _
@[sl_canon] theorem semW3 (hh) : (cc0_scratch1.slice (Rect.unit (s := S3x4) (k0_off12 k) S1x1.size hh)).squeeze S_ squeezes_S1x1_S_ = csm (Ring.sl 3 k.val) 3 := csm_of (off12_eq k) _
@[sl_canon] theorem semI0 (hh) : (cc0_scratch1.slice (Rect.unit (s := S3x4) (k0_off14 k) S1x1.size hh)).squeeze S_ squeezes_S1x1_S_ = csm (Ring.sl 3 k.val) 0 := csm_of (off14_eq k) _
@[sl_canon] theorem semI1 (hh) : (cc0_scratch1.slice (Rect.unit (s := S3x4) (k0_off17 k) S1x1.size hh)).squeeze S_ squeezes_S1x1_S_ = csm (Ring.sl 3 k.val) 1 := csm_of (off17_eq k) _
@[sl_canon] theorem semI2 (hh) : (cc0_scratch1.slice (Rect.unit (s := S3x4) (k0_off18 k) S1x1.size hh)).squeeze S_ squeezes_S1x1_S_ = csm (Ring.sl 3 k.val) 2 := csm_of (off18_eq k) _
@[sl_canon] theorem semI3 (hh) : (cc0_scratch1.slice (Rect.unit (s := S3x4) (k0_off19 k) S1x1.size hh)).squeeze S_ squeezes_S1x1_S_ = csm (Ring.sl 3 k.val) 3 := csm_of (off19_eq k) _
@[sl_canon] theorem srcW0 (hh hs) : xM.slice (Rect.unit (s := S256x4096x128) (k0_off9 k 0#32) S2x4096x128.size hh) hs = src (Ring.bk 32 k.val) 0 := src_of (off9_eq k 0) _ _
@[sl_canon] theorem srcW1 (hh hs) : xM.slice (Rect.unit (s := S256x4096x128) (k0_off9 k 2#32) S2x4096x128.size hh) hs = src (Ring.bk 32 k.val) 1 := src_of (off9_eq k 1) _ _
@[sl_canon] theorem srcW2 (hh hs) : xM.slice (Rect.unit (s := S256x4096x128) (k0_off9 k 4#32) S2x4096x128.size hh) hs = src (Ring.bk 32 k.val) 2 := src_of (off9_eq k 2) _ _
@[sl_canon] theorem srcW3 (hh hs) : xM.slice (Rect.unit (s := S256x4096x128) (k0_off9 k 6#32) S2x4096x128.size hh) hs = src (Ring.bk 32 k.val) 3 := src_of (off9_eq k 3) _ _
variable (h : k.val + 3 < 32)
include h
@[sl_canon] theorem srcI0 (hh hs) : xM.slice (Rect.unit (s := S256x4096x128) (k0_off16 k 0#32) S2x4096x128.size hh) hs = src (Ring.bk 32 (k.val + 3)) 0 := src_of (off16_eq k h 0) _ _
@[sl_canon] theorem srcI1 (hh hs) : xM.slice (Rect.unit (s := S256x4096x128) (k0_off16 k 2#32) S2x4096x128.size hh) hs = src (Ring.bk 32 (k.val + 3)) 1 := src_of (off16_eq k h 1) _ _
@[sl_canon] theorem srcI2 (hh hs) : xM.slice (Rect.unit (s := S256x4096x128) (k0_off16 k 4#32) S2x4096x128.size hh) hs = src (Ring.bk 32 (k.val + 3)) 2 := src_of (off16_eq k h 2) _ _
@[sl_canon] theorem srcI3 (hh hs) : xM.slice (Rect.unit (s := S256x4096x128) (k0_off16 k 6#32) S2x4096x128.size hh) hs = src (Ring.bk 32 (k.val + 3)) 3 := src_of (off16_eq k h 3) _ _

end Cert.Proof.Stream

end
-- ==== Proof.Pieces.lean ====
/-
  The pieces as sets of elements, and what they hold: a block of the streamed array is the disjoint union of its four
  quarters, a slot of the buffer likewise, and a quarter that has arrived holds the block's rows.
-/
module

public import proofs.«01_k».proof.Proof.Names
public import Idealize.ShloMosaic.Lib.ValueLayout
public import Idealize.ShloMosaic.Lib.Ring.AtN

@[expose] public section

noncomputable section

namespace Cert.Proof.Stream

open Cert.KernelIdeal Cert.KernelIdeal.Gen
open Idealize.ShloMosaic Idealize.ShloMosaic.TcCoe Idealize.ShloMosaic.Tactic
open Idealize.ShloMosaic.ValueIdx

/-! ## Where each piece's elements sit -/

/-- Two positions of the buffer with the same coordinates are one. -/
theorem bufIdx_ext {y y' : S3x8x4096x128.Idx} (h0 : (y 0).val = (y' 0).val) (h1 : (y 1).val = (y' 1).val)
    (h2 : (y 2).val = (y' 2).val) (h3 : (y 3).val = (y' 3).val) : y = y' := by
  funext a; apply Fin.ext; fin_cases a; exacts [h0, h1, h2, h3]
/-- Two positions of the array with the same coordinates are one. -/
theorem arrIdx_ext {y y' : S256x4096x128.Idx} (h0 : (y 0).val = (y' 0).val) (h1 : (y 1).val = (y' 1).val)
    (h2 : (y 2).val = (y' 2).val) : y = y' := by
  funext a; apply Fin.ext; fin_cases a; exacts [h0, h1, h2]

/-- Where position `x` of slot `s`, of its quarter `q`, of quarter `q` of block `b`, sits in its buffer. -/
def slotAt (s : Fin 3) (x : S8x4096x128.Idx) : S3x8x4096x128.Idx := (slot s).view.emb x
def quartAt (s : Fin 3) (q : Fin 4) (x : S2x4096x128.Idx) : S3x8x4096x128.Idx := (quart s q).view.emb x
def srcAt (b : Fin 32) (q : Fin 4) (x : S2x4096x128.Idx) : S256x4096x128.Idx := (src b q).view.emb x
/-- The elements of slot `s`, of its quarter `q`, of quarter `q` of block `b`. -/
def slotSet (s : Fin 3) : Finset S3x8x4096x128.Idx := (slot s).view.set
def quartSet (s : Fin 3) (q : Fin 4) : Finset S3x8x4096x128.Idx := (quart s q).view.set
def srcSet (b : Fin 32) (q : Fin 4) : Finset S256x4096x128.Idx := (src b q).view.set

theorem slotAt_val (s : Fin 3) (x : S8x4096x128.Idx) :
    (slotAt s x 0).val = s.val ∧ (slotAt s x 1).val = (x 0).val ∧ (slotAt s x 2).val = (x 1).val ∧ (slotAt s x 3).val = (x 2).val := by
  have e : Shape.reshapeEquiv (squeezes_S1x8x4096x128_S8x4096x128).numel_eq x
      = ix4 (⟨0, Nat.one_pos⟩ : Fin 1) (x 0 : Fin 8) (x 1 : Fin 4096) (x 2 : Fin 128) :=
    (congrArg _ (eq_ix3 x)).trans (reshapeEquiv_ix3_1abc _ _ _ _)
  have h : slotAt s x = (Rect.unit (s := S3x8x4096x128) (slotOff s) S1x8x4096x128.size (slotOff_inb s)).emb
      (ix4 (⟨0, Nat.one_pos⟩ : Fin 1) (x 0 : Fin 8) (x 1 : Fin 4096) (x 2 : Fin 128)) :=
    congrArg (Rect.unit (s := S3x8x4096x128) (slotOff s) S1x8x4096x128.size (slotOff_inb s)).emb e
  rw [h]
  refine ⟨?_, ?_, ?_, ?_⟩
  · show s.val + 1 * 0 = s.val; omega
  · show 0 + 1 * (x 0).val = (x 0).val; omega
  · show 0 + 1 * (x 1).val = (x 1).val; omega
  · show 0 + 1 * (x 2).val = (x 2).val; omega

theorem quartAt_val (s : Fin 3) (q : Fin 4) (x : S2x4096x128.Idx) :
    (quartAt s q x 0).val = s.val ∧ (quartAt s q x 1).val = 2 * q.val + (x 0).val
      ∧ (quartAt s q x 2).val = (x 1).val ∧ (quartAt s q x 3).val = (x 2).val := by
  obtain ⟨h0, h1, h2, h3⟩ := slotAt_val s ((Rect.unit (s := S8x4096x128) (quartOff q) S2x4096x128.size (quartOff_inb q)).emb x)
  refine ⟨h0, h1.trans ?_, h2.trans ?_, h3.trans ?_⟩
  · show 2 * q.val + 1 * (x 0).val = _; omega
  · show 0 + 1 * (x 1).val = _; omega
  · show 0 + 1 * (x 2).val = _; omega

theorem srcAt_val (b : Fin 32) (q : Fin 4) (x : S2x4096x128.Idx) :
    (srcAt b q x 0).val = 8 * b.val + 2 * q.val + (x 0).val ∧ (srcAt b q x 1).val = (x 1).val ∧ (srcAt b q x 2).val = (x 2).val := by
  refine ⟨?_, ?_, ?_⟩
  · show 8 * b.val + 2 * q.val + 1 * (x 0).val = _; omega
  · show 0 + 1 * (x 1).val = _; omega
  · show 0 + 1 * (x 2).val = _; omega

theorem mem_slot (s : Fin 3) (y : S3x8x4096x128.Idx) : y ∈ slotSet s ↔ (y 0).val = s.val := by
  constructor
  · intro h
    obtain ⟨x, -, hx⟩ := Finset.mem_map.mp h
    obtain rfl : slotAt s x = y := hx
    exact (slotAt_val s x).1
  · intro h
    obtain ⟨h0, h1, h2, h3⟩ := slotAt_val s (ix3 (y 1 : Fin 8) (y 2 : Fin 4096) (y 3 : Fin 128))
    have e : slotAt s (ix3 (y 1 : Fin 8) (y 2 : Fin 4096) (y 3 : Fin 128)) = y := bufIdx_ext (h0.trans h.symm) h1 h2 h3
    exact Finset.mem_map.mpr ⟨_, Finset.mem_univ _, e⟩

theorem mem_quart (s : Fin 3) (q : Fin 4) (y : S3x8x4096x128.Idx) :
    y ∈ quartSet s q ↔ (y 0).val = s.val ∧ (y 1).val / 2 = q.val := by
  constructor
  · intro h
    obtain ⟨x, -, hx⟩ := Finset.mem_map.mp h
    obtain rfl : quartAt s q x = y := hx
    obtain ⟨h0, h1, -⟩ := quartAt_val s q x
    have : (x 0).val < 2 := (x 0).isLt
    exact ⟨h0, by omega⟩
  · rintro ⟨h, hq⟩
    have hy : (y 1).val < 8 := (y 1).isLt
    obtain ⟨h0, h1, h2, h3⟩ := quartAt_val s q (ix3 (⟨(y 1).val % 2, by omega⟩ : Fin 2) (y 2 : Fin 4096) (y 3 : Fin 128))
    have e : quartAt s q (ix3 (⟨(y 1).val % 2, by omega⟩ : Fin 2) (y 2 : Fin 4096) (y 3 : Fin 128)) = y :=
      bufIdx_ext (h0.trans h.symm) (h1.trans (by show 2 * q.val + (y 1).val % 2 = _; omega)) h2 h3
    exact Finset.mem_map.mpr ⟨_, Finset.mem_univ _, e⟩

theorem mem_src (b : Fin 32) (q : Fin 4) (y : S256x4096x128.Idx) : y ∈ srcSet b q ↔ (y 0).val / 2 = 4 * b.val + q.val := by
  constructor
  · intro h
    obtain ⟨x, -, hx⟩ := Finset.mem_map.mp h
    obtain rfl : srcAt b q x = y := hx
    obtain ⟨h0, -⟩ := srcAt_val b q x
    have : (x 0).val < 2 := (x 0).isLt
    omega
  · intro h
    obtain ⟨h0, h1, h2⟩ := srcAt_val b q (ix3 (⟨(y 0).val % 2, by omega⟩ : Fin 2) (y 1 : Fin 4096) (y 2 : Fin 128))
    have e : srcAt b q (ix3 (⟨(y 0).val % 2, by omega⟩ : Fin 2) (y 1 : Fin 4096) (y 2 : Fin 128)) = y :=
      arrIdx_ext (h0.trans (by show 8 * b.val + 2 * q.val + (y 0).val % 2 = _; omega)) h1 h2
    exact Finset.mem_map.mpr ⟨_, Finset.mem_univ _, e⟩

/-- The elements of block `b` of the streamed array. -/
def blockSet (b : Fin 32) : Finset S256x4096x128.Idx := Finset.univ.filter fun y => (y 0).val / 8 = b.val
theorem mem_blockSet (b : Fin 32) (y : S256x4096x128.Idx) : y ∈ blockSet b ↔ (y 0).val / 8 = b.val := by
  unfold blockSet; rw [Finset.mem_filter]; simp

theorem blocks_disjoint (b b' : Fin 32) (h : b ≠ b') : Disjoint (blockSet b) (blockSet b') := by
  rw [Finset.disjoint_left]; intro y hy hy'; rw [mem_blockSet] at hy hy'
  exact h (Fin.ext (hy.symm.trans hy'))
theorem blocks_cover : Finset.univ.biUnion blockSet = Finset.univ := by
  ext y; simp only [Finset.mem_biUnion, Finset.mem_univ, true_and, iff_true]
  have h0 : (y 0).val < 256 := (y 0).isLt
  exact ⟨⟨(y 0).val / 8, by omega⟩, (mem_blockSet _ _).mpr rfl⟩
theorem srcs_disjoint (b : Fin 32) (q q' : Fin 4) (h : q ≠ q') :
    Disjoint (srcSet b q) (srcSet b q') := by
  rw [Finset.disjoint_left]; intro y hy hy'
  have h1 := (mem_src b q y).mp hy; have h2 := (mem_src b q' y).mp hy'
  exact h (Fin.ext (by omega))
theorem srcs_cover (b : Fin 32) :
    Finset.univ.biUnion (fun q => srcSet b q) = blockSet b := by
  ext y; rw [mem_blockSet]; simp only [Finset.mem_biUnion, Finset.mem_univ, true_and]
  constructor
  · rintro ⟨q, hq⟩; have := (mem_src b q y).mp hq; omega
  · intro h; exact ⟨⟨(y 0).val / 2 - 4 * b.val, by omega⟩, (mem_src b _ y).mpr (by show _ = 4 * b.val + ((y 0).val / 2 - 4 * b.val); omega)⟩

theorem slots_disjoint (s s' : Fin 3) (h : s ≠ s') :
    Disjoint (slotSet s) (slotSet s') := by
  rw [Finset.disjoint_left]; intro y hy hy'
  exact h (Fin.ext (((mem_slot s y).mp hy).symm.trans ((mem_slot s' y).mp hy')))
theorem slots_cover : Finset.univ.biUnion (fun s => slotSet s) = Finset.univ := by
  ext y; simp only [Finset.mem_biUnion, Finset.mem_univ, true_and, iff_true]
  exact ⟨y 0, (mem_slot _ y).mpr rfl⟩
theorem quarts_disjoint (s : Fin 3) (q q' : Fin 4) (h : q ≠ q') :
    Disjoint (quartSet s q) (quartSet s q') := by
  rw [Finset.disjoint_left]; intro y hy hy'
  have h1 := ((mem_quart s q y).mp hy).2; have h2 := ((mem_quart s q' y).mp hy').2
  exact h (Fin.ext (by omega))
theorem quarts_cover (s : Fin 3) :
    Finset.univ.biUnion (fun q => quartSet s q) = slotSet s := by
  ext y; rw [mem_slot]; simp only [Finset.mem_biUnion, Finset.mem_univ, true_and]
  have h1 : (y 1).val < 8 := (y 1).isLt
  constructor
  · rintro ⟨q, hq⟩; exact ((mem_quart s q y).mp hq).1
  · intro h; exact ⟨⟨(y 1).val / 2, by omega⟩, (mem_quart s _ y).mpr ⟨h, rfl⟩⟩

/-! ## What a slot holds once its block has arrived -/

variable {F : FTy → Type} [FloatOps F]
variable (c : Dev nD) (X : Buf (Elt F) (xM.view.loc (c : Thread nD τ)))

/-- The whole buffer's contents that show block `b` in every slot: row `r` of a slot is row `8 b + r` of the array. -/
def blockBuf (b : Fin 32) : S3x8x4096x128.Idx → Elt F .f32 := fun y =>
  X (ix3 (⟨8 * b.val + (y 1).val, by have h : (y 1).val < 8 := (y 1).isLt; omega⟩ : Fin 256) (y 2) (y 3))

/-- A quarter overwritten by its copy holds the block's rows there. -/
theorem arrived (s : Fin 3) (b : Fin 32) (q : Fin 4) (f : Buf (Elt F) ((quart s q).view.loc (c : Thread nD τ)))
    (i : S3x8x4096x128.Idx) (hi : i ∈ quartSet s q) :
    (quart s q).view.writes (Elt F) f [⟨Rect.whole S2x4096x128, ReadAs.same.apply ((src b q).view.read (Elt F) X)⟩] i = blockBuf c X b i := by
  obtain ⟨x, -, hx⟩ := Finset.mem_map.mp hi
  obtain rfl : quartAt s q x = i := hx
  obtain ⟨h0, h1, h2, h3⟩ := quartAt_val s q x
  obtain ⟨g0, g1, g2⟩ := srcAt_val b q x
  rw [← View.write_univ_eq_writes_whole]
  refine (View.write_emb_of_mem (v := (quart s q).view) _ _ (Finset.mem_univ x)).trans ?_
  show X (srcAt b q x) = blockBuf c X b (quartAt s q x)
  unfold blockBuf
  exact congrArg X (arrIdx_ext (g0.trans (by show _ = 8 * b.val + (quartAt s q x 1).val; omega)) (g1.trans h2.symm) (g2.trans h3.symm))

end Cert.Proof.Stream

end
-- ==== Proof.Trip.lean ====
/-
  What the core holds while the copies run: a quarter of a slot, a block of the array, a copy on its way, and the ring of
  the three slots; a slot and a block are their four quarters; and one trip of the loop, which takes the ring from one
  position to the next and stores one block's result.
-/
module

public import proofs.«01_k».proof.Proof.Pieces
public import Idealize.ShloMosaic.Lib.Pipeline.KitQuiescent

@[expose] public section

noncomputable section

namespace Cert.Proof.Stream

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-- The proof's own resources: the launch's, and counters for the copies. -/
abbrev UU (nD : Nat) (τ : Topo) : Type := UR sig nD τ × Counters
local notation "𝕄" => MT nD τ sig Unit (Elt F) ℕ (UU nD τ) ℕ
abbrev 𝒱₀ : Variants := Variants.none

omit [FloatOps F] [Named F] in
theorem entails_of_eq {P Q : sProp 𝕄} (e : P = Q) : P ⊢ Q := e ▸ .rfl

/-! ## What is held -/

section Held

variable (c : Dev nD) (X : Buf (Elt F) (xM.view.loc (c : Thread nD τ)))

/-- The semaphore of quarter `q` of slot `s`, at zero. -/
abbrev cellP (s : Fin 3) (q : Fin 4) : sProp 𝕄 := semVal ((c : Thread nD τ), SemLoc.dma (csm s q).sem) 0
/-- A part of the buffer at contents `f`. -/
abbrev bufAt (I : Finset S3x8x4096x128.Idx) (f : S3x8x4096x128.Idx → Elt F .f32) : sProp 𝕄 :=
  bufM.view.loc (c : Thread nD τ) ↦[I]{fullShare} f
/-- Quarter `q` of slot `s`, and the whole slot, at contents `f`. -/
abbrev quartP (s : Fin 3) (q : Fin 4) (f : S3x8x4096x128.Idx → Elt F .f32) : sProp 𝕄 :=
  (quart s q).view.loc (c : Thread nD τ) ↦[(quart s q).view.set]{fullShare} f
abbrev slotP (s : Fin 3) (f : S3x8x4096x128.Idx → Elt F .f32) : sProp 𝕄 :=
  (slot s).view.loc (c : Thread nD τ) ↦[(slot s).view.set]{fullShare} f
/-- Quarter `q` of block `b`, and the whole block, of the sequence array. -/
abbrev srcP (b : Fin 32) (q : Fin 4) : sProp 𝕄 := (src b q).view.loc (c : Thread nD τ) ↦[(src b q).view.set]{fullShare} X
abbrev homeP (b : Fin 32) : sProp 𝕄 := xM.view.loc (c : Thread nD τ) ↦[blockSet b]{fullShare} X
/-- The copy of quarter `q` of block `b` on its way into slot `s`: at its end it hands back that quarter of the slot,
    showing the block's rows, and that quarter of the block. A copy counts 131072 on its semaphore. -/
abbrev flightP (s : Fin 3) (b : Fin 32) (q : Fin 4) : sProp 𝕄 :=
  Transfers.Flight countersEmb (c : Thread nD τ) (SemLoc.dma (csm s q).sem) () 131072
    iprop(quartP c s q (blockBuf c X b) ∗ srcP c X b q)
/-- All four copies of block `b` into slot `s`; and a slot with no copy on its way, at anything. -/
def busyP (s : Fin 3) (b : Fin 32) : sProp 𝕄 :=
  iprop(flightP c X s b 0 ∗ flightP c X s b 1 ∗ flightP c X s b 2 ∗ flightP c X s b 3)
def freeP (s : Fin 3) : sProp 𝕄 :=
  iprop((cellP c s 0 ∗ cellP c s 1 ∗ cellP c s 2 ∗ cellP c s 3) ∗ ∃ f, slotP (F := F) c s f)
/-- The slot of position `k`: block `k` is on its way there, or, past the last block, nothing is. -/
def ringP (k : ℕ) : sProp 𝕄 := if k < 32 then busyP c X (Ring.sl 3 k) (Ring.bk 32 k) else freeP c (Ring.sl 3 k)
theorem ringP_busy (k : ℕ) (h : k < 32) : ringP c X k = busyP c X (Ring.sl 3 k) (Ring.bk 32 k) := if_pos h
theorem ringP_free (k : ℕ) (h : ¬ k < 32) : ringP c X k = freeP c (Ring.sl 3 k) := if_neg h

/-! ## A slot and a block are their quarters; a copy just started -/

omit [FloatOps F] [Named F] in
theorem quartP_eq (s : Fin 3) (q : Fin 4) (f : S3x8x4096x128.Idx → Elt F .f32) : quartP c s q f = bufAt c (quartSet s q) f := rfl
omit [FloatOps F] [Named F] in
theorem slotP_eq (s : Fin 3) (f : S3x8x4096x128.Idx → Elt F .f32) : slotP c s f = bufAt c (slotSet s) f := rfl
omit [FloatOps F] [Named F] in
theorem srcP_eq (b : Fin 32) (q : Fin 4) : srcP c X b q = (xM.view.loc (c : Thread nD τ) ↦[srcSet b q]{fullShare} X : sProp 𝕄) := rfl

omit [FloatOps F] [Named F] in
/-- A slot is its four quarters. -/
theorem slot_quarters (s : Fin 3) (f : S3x8x4096x128.Idx → Elt F .f32) :
    slotP c s f = iprop(quartP c s 0 f ∗ quartP c s 1 f ∗ quartP c s 2 f ∗ quartP c s 3 f) := by
  have e : (bufAt c (slotSet s) f : sProp 𝕄) = bigSep Finset.univ fun q => bufAt c (quartSet s q) f :=
    Ring.pointsTo_sub_blocks (ℓ := bufM.view.loc (c : Thread nD τ)) (I := fun q => quartSet s q) (quarts_disjoint s) (slotSet s) (quarts_cover s) f
  rw [slotP_eq, e, Ring.bigSep_fin4, quartP_eq, quartP_eq, quartP_eq, quartP_eq]
omit [FloatOps F] [Named F] in
/-- A block of the sequence array is its four quarters. -/
theorem home_quarters (b : Fin 32) :
    homeP c X b = iprop(srcP c X b 0 ∗ srcP c X b 1 ∗ srcP c X b 2 ∗ srcP c X b 3) := by
  have e : (homeP c X b : sProp 𝕄) = bigSep Finset.univ fun q => (xM.view.loc (c : Thread nD τ) ↦[srcSet b q]{fullShare} X : sProp 𝕄) :=
    Ring.pointsTo_sub_blocks (ℓ := xM.view.loc (c : Thread nD τ)) (I := fun q => srcSet b q) (srcs_disjoint b) (blockSet b) (srcs_cover b) X
  rw [e, Ring.bigSep_fin4, srcP_eq, srcP_eq, srcP_eq, srcP_eq]

/-- A copy just started, as it is recorded, is a copy that will leave block `b`'s rows in the quarter. -/
theorem flight_settles (s : Fin 3) (b : Fin 32) (q : Fin 4) (f : Buf (Elt F) ((quart s q).view.loc (c : Thread nD τ))) :
    Transfers.Flight countersEmb (c : Thread nD τ) (SemLoc.dma (csm s q).sem) () 131072
      iprop(quartP c s q ((quart s q).view.writes (Elt F) f [⟨Rect.whole S2x4096x128, ReadAs.same.apply ((src b q).view.read (Elt F) X)⟩])
        ∗ srcP c X b q)
      ⊢ flightP c X s b q := by
  have e : (bufAt c (quartSet s q) ((quart s q).view.writes (Elt F) f [⟨Rect.whole S2x4096x128, ReadAs.same.apply ((src b q).view.read (Elt F) X)⟩]) : sProp 𝕄)
      = bufAt c (quartSet s q) (blockBuf c X b) :=
    pointsTo_congr (ℓ := bufM.view.loc (c : Thread nD τ)) fun i hi => arrived c X s b q f i hi
  exact entails_of_eq (congrArg (fun P : sProp 𝕄 => (Transfers.Flight countersEmb (c : Thread nD τ) (SemLoc.dma (csm s q).sem) () 131072 iprop(P ∗ srcP c X b q) : sProp 𝕄)) e)

/-- The blocks at home before trip `k`, the one the trip sends out apart; and after it, the one it brings back apart. -/
theorem homes_here (k : ℕ) (h : k + 3 < 32) :
    bigSep (Ring.homeSet 3 k) (homeP c X)
      = iprop(homeP c X (Ring.bk 32 (k + 3)) ∗ bigSep ((Ring.homeSet 3 k).erase (Ring.bk 32 (k + 3))) (homeP c X)) := by
  conv_lhs => rw [Ring.homeSet_out 3 k h, bigSep_insert (Ring.bkL_not_mem_erase 3 k)]
  rfl
theorem homes_next (k : ℕ) (h : k + 3 < 32) :
    bigSep (Ring.homeSet 3 (k + 1)) (homeP c X)
      = iprop(homeP c X (Ring.bk 32 k) ∗ bigSep ((Ring.homeSet 3 k).erase (Ring.bk 32 (k + 3))) (homeP c X)) := by
  conv_lhs => rw [Ring.homeSet_succ 3 k h, bigSep_insert (Ring.bk_not_mem_erase 3 k (by omega) (by decide))]
  rfl
/-- The same for the last three trips, which send nothing out. -/
theorem homes_tail (k : ℕ) (hk : k < 32) (h : ¬ k + 3 < 32) :
    bigSep (Ring.homeSet 3 (k + 1)) (homeP c X) = iprop(homeP c X (Ring.bk 32 k) ∗ bigSep (Ring.homeSet 3 k) (homeP c X)) := by
  conv_lhs => rw [Ring.homeSet_succ_tail 3 k (by omega) hk, bigSep_insert (Ring.bk_not_mem_homeSet 3 k hk (by decide))]
  rfl

end Held

/-! ## One trip -/

section Trip

variable (c : Dev nD) (X : Buf (Elt F) (xM.view.loc (c : Thread nD τ)))
  (arg1 : Memref sig .tc .vmem S1x128 .f32) (harg1 : arg1.IsWhole)
  (arg2 : Memref sig .tc .vmem S32x8x128 .f32) (harg2 : arg2.IsWhole)
  (v4 : FVec F S1x1x128 .f32)

/-- The output's staging buffer at contents `fo`. -/
abbrev oP (fo : Buf (Elt F) (arg2.view.loc (c : Thread nD τ))) : sProp 𝕄 :=
  arg2.view.loc (c : Thread nD τ) ↦[arg2.view.set]{fullShare} fo
/-- What is held before trip `k`: the output's buffer, the record of waits, the blocks at home, and the three slots. -/
def resAt (k : ℕ) (fo : Buf (Elt F) (arg2.view.loc (c : Thread nD τ))) : sProp 𝕄 :=
  iprop(oP c arg2 fo ∗ (∃ W, owes (c : Thread nD τ) 0 W) ∗ bigSep (Ring.homeSet 3 k) (homeP c X)
    ∗ ringP c X k ∗ ringP c X (k + 1) ∗ ringP c X (k + 2))

abbrev tripG (k : Fin k0_t1_loop.trips) : Prog (TpuEff nD τ sig (Elt F) Λ₀ .tc) Unit :=
  k0_t1_body (F := F) xM (Memref.isWhole_whole _) arg1 harg1 arg2 harg2 bufM (Memref.isWhole_whole _) cc0_scratch1 v4 k ()
/-- The part of the output's buffer that trip `k` stores to. -/
abbrev outRect (k : Fin k0_t1_loop.trips) : Rect S32x8x128 := Rect.unit (k0_off13 k) S1x8x128.size (k0_off13_inb k)

set_option backward.proofsInPublic true in
/-- ONE TRIP: it waits for block `k`'s four copies, reads the slot, stores the block's result, and, if there is a block
    `k + 3`, starts its copies into the same slot. The stored block is the trip's own. -/
def tripRun (k : Fin k0_t1_loop.trips) (fo : Buf (Elt F) (arg2.view.loc (c : Thread nD τ))) :
    { w : (outRect k).shape.Idx → Elt F .f32 //
      resAt c X arg2 k fo ⊢ wp frame (wpE (defs₀ (F := F)) 𝒱₀ (c : Thread nD τ) none) Set.univ (tripG arg1 harg1 arg2 harg2 v4 k)
        (fun _ => resAt c X arg2 (k.val + 1) (arg2.view.writes (Elt F) fo [⟨outRect k, w⟩])) } := by
  refine ⟨?_, ?run⟩
  case run =>
    have hk : k.val < 32 := trip_lt k
    unfold resAt
    rw [ringP_busy c X k.val hk]
    unfold busyP
    iintro ⟨HO, ⟨%W, HW⟩, HH, ⟨HF0, HF1, HF2, HF3⟩, HR1, HR2⟩
    dsimp only [tripG]
    sl_unfold [k0_t1_body]
    sl_exec
    ihave HS := (entails_of_eq (slot_quarters c (Ring.sl 3 k.val) (blockBuf c X (Ring.bk 32 k.val))).symm) $$ [HF0_dst HF1_dst HF2_dst HF3_dst]
    · isplitl [HF0_dst]; · iexact HF0_dst
      isplitl [HF1_dst]; · iexact HF1_dst
      isplitl [HF2_dst]; · iexact HF2_dst
      iexact HF3_dst
    ihave HB := (entails_of_eq (home_quarters c X (Ring.bk 32 k.val)).symm) $$ [HF0_src HF1_src HF2_src HF3_src]
    · isplitl [HF0_src]; · iexact HF0_src
      isplitl [HF1_src]; · iexact HF1_src
      isplitl [HF2_src]; · iexact HF2_src
      iexact HF3_src
    sl_exec
    by_cases h : k.val + 3 < 32
    · ihave HQ := (entails_of_eq (slot_quarters c (Ring.sl 3 k.val) (blockBuf c X (Ring.bk 32 k.val)))) $$ HS
      icases HQ with ⟨HQ0, HQ1, HQ2, HQ3⟩
      ihave HH2 := (entails_of_eq (homes_here c X k.val h)) $$ HH
      icases HH2 with ⟨HN, HE⟩
      ihave HG := (entails_of_eq (home_quarters c X (Ring.bk 32 (k.val + 3)))) $$ HN
      icases HG with ⟨HG0, HG1, HG2, HG3⟩
      sl_rw [dif_pos (cond_of_lt k h)]
      sl_exec
      sl_step
      rw [homes_next c X k.val h, ringP_busy c X (k.val + 1 + 2) h, show Ring.sl 3 (k.val + 1 + 2) = Ring.sl 3 k.val from Ring.sl_add 3 k.val]
      unfold busyP
      isplitl [HO]; · iexact HO
      isplitl [HW]; · iexists _; iexact HW
      isplitl [HB HE]
      · isplitl [HB]; · iexact HB
        iexact HE
      isplitl [HR1]; · iexact HR1
      isplitl [HR2]; · iexact HR2
      isplitl [HF0]; · iapply (flight_settles c X (Ring.sl 3 k.val) (Ring.bk 32 (k.val + 3)) 0 _); iexact HF0
      isplitl [HF1]; · iapply (flight_settles c X (Ring.sl 3 k.val) (Ring.bk 32 (k.val + 3)) 1 _); iexact HF1
      isplitl [HF2]; · iapply (flight_settles c X (Ring.sl 3 k.val) (Ring.bk 32 (k.val + 3)) 2 _); iexact HF2
      iapply (flight_settles c X (Ring.sl 3 k.val) (Ring.bk 32 (k.val + 3)) 3 _); iexact HF3
    · sl_rw [dif_neg (cond_of_le k h)]
      sl_step
      rw [homes_tail c X k.val hk h, ringP_free c X (k.val + 1 + 2) h, show Ring.sl 3 (k.val + 1 + 2) = Ring.sl 3 k.val from Ring.sl_add 3 k.val]
      unfold freeP
      isplitl [HO]; · iexact HO
      isplitl [HW]; · iexists _; iexact HW
      isplitl [HB HH]
      · isplitl [HB]; · iexact HB
        iexact HH
      isplitl [HR1]; · iexact HR1
      isplitl [HR2]; · iexact HR2
      isplitr [HS]
      · isplitl [HF0]; · iexact HF0
        isplitl [HF1]; · iexact HF1
        isplitl [HF2]; · iexact HF2
        iexact HF3
      iexists _; iexact HS

end Trip

end Cert.Proof.Stream

end
-- ==== Proof.Body.lean ====
/-
  The kernel's body: the prologue starts blocks 0, 1 and 2; the loop of 32 trips keeps the ring; after it every block is
  home and every slot is free.
-/
module

public import proofs.«01_k».proof.Proof.Trip

@[expose] public section

noncomputable section

namespace Cert.Proof.Stream

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UU nD τ) ℕ

variable (c : Dev nD) (X : Buf (Elt F) (xM.view.loc (c : Thread nD τ)))
  (arg1 : Memref sig .tc .vmem S1x128 .f32) (harg1 : arg1.IsWhole)
  (arg2 : Memref sig .tc .vmem S32x8x128 .f32) (harg2 : arg2.IsWhole)

/-! ## The loop -/

section Loop

variable (v4 : FVec F S1x1x128 .f32)

/-- The output's buffer before trip `k`: what it was at the loop's entry, with each earlier trip's block stored. -/
def oAcc (o0 : Buf (Elt F) (arg2.view.loc (c : Thread nD τ))) : ℕ → Buf (Elt F) (arg2.view.loc (c : Thread nD τ))
  | 0 => o0
  | k + 1 =>
    if h : k < k0_t1_loop.trips then
      arg2.view.writes (Elt F) (oAcc o0 k) [⟨outRect ⟨k, h⟩, (tripRun c X arg1 harg1 arg2 harg2 v4 ⟨k, h⟩ (oAcc o0 k)).1⟩]
    else oAcc o0 k

/-- One trip: from the ring at position `k` and `k` blocks stored, to position `k + 1` and one more block stored. -/
theorem trip_step (o0 : Buf (Elt F) (arg2.view.loc (c : Thread nD τ))) (k : Fin k0_t1_loop.trips) :
    resAt c X arg2 k (oAcc c X arg1 harg1 arg2 harg2 v4 o0 k)
      ⊢ wp frame (wpE (defs₀ (F := F)) 𝒱₀ (c : Thread nD τ) none) Set.univ (tripG arg1 harg1 arg2 harg2 v4 k)
        (fun _ => resAt c X arg2 (k.val + 1) (oAcc c X arg1 harg1 arg2 harg2 v4 o0 (k.val + 1))) := by
  have e : oAcc c X arg1 harg1 arg2 harg2 v4 o0 (k.val + 1)
      = arg2.view.writes (Elt F) (oAcc c X arg1 harg1 arg2 harg2 v4 o0 k)
          [⟨outRect k, (tripRun c X arg1 harg1 arg2 harg2 v4 k (oAcc c X arg1 harg1 arg2 harg2 v4 o0 k)).1⟩] := by
    rw [oAcc, dif_pos k.isLt]
  rw [e]
  exact (tripRun c X arg1 harg1 arg2 harg2 v4 k _).2

end Loop

/-! ## The body -/

abbrev bodyG : Prog (TpuEff nD τ sig (Elt F) Λ₀ .tc) PUnit :=
  cc0_additive_attention_pool xM (Memref.isWhole_whole _) arg1 harg1 arg2 harg2 bufM (Memref.isWhole_whole _) cc0_scratch1

/-- The weights' staging buffer at contents `w0`. -/
abbrev wP (w0 : Buf (Elt F) (arg1.view.loc (c : Thread nD τ))) : sProp 𝕄 := arg1.view.loc (c : Thread nD τ) ↦[arg1.view.set]{fullShare} w0
/-- What the kernel keeps between its points: every block home, every slot free. -/
def idleP : sProp 𝕄 := iprop(bigSep Finset.univ (homeP c X) ∗ freeP (F := F) c 0 ∗ freeP (F := F) c 1 ∗ freeP (F := F) c 2)

/-- Every block home: blocks 0, 1 and 2, and those at home before trip 0. -/
theorem homes_zero :
    bigSep Finset.univ (homeP c X) = iprop(homeP c X 0 ∗ homeP c X 1 ∗ homeP c X 2 ∗ bigSep (Ring.homeSet 3 0) (homeP c X)) := by
  have e : (Finset.univ : Finset (Fin 32)) = insert 0 (insert 1 (insert 2 (Ring.homeSet (NB := 32) 3 0))) := by
    ext b; simp only [Finset.mem_univ, Finset.mem_insert, Ring.mem_homeSet, true_iff, Fin.ext_iff]; have := b.isLt; omega
  rw [e, bigSep_insert (by simp [Ring.mem_homeSet, Fin.ext_iff]), bigSep_insert (by simp [Ring.mem_homeSet, Fin.ext_iff]), bigSep_insert (by simp [Ring.mem_homeSet])]; rfl

/-- The first three positions of the ring, all on their way. -/
theorem ring_start : iprop(ringP c X 0 ∗ ringP c X (0 + 1) ∗ ringP c X (0 + 2)) = iprop(busyP c X 0 0 ∗ busyP c X 1 1 ∗ busyP c X 2 2) := by
  rw [ringP_busy c X 0 (by decide), ringP_busy c X (0 + 1) (by decide), ringP_busy c X (0 + 2) (by decide)]; rfl
/-- The last three positions, all free. -/
theorem ring_end : iprop(ringP c X 32 ∗ ringP c X (32 + 1) ∗ ringP c X (32 + 2)) = iprop(freeP (F := F) c 2 ∗ freeP (F := F) c 0 ∗ freeP (F := F) c 1) := by
  rw [ringP_free c X 32 (by decide), ringP_free c X (32 + 1) (by decide), ringP_free c X (32 + 2) (by decide)]; rfl

/-- What is kept between points, taken apart for the prologue. -/
theorem idle_open : idleP c X ⊢
    iprop(((srcP c X 0 0 ∗ srcP c X 0 1 ∗ srcP c X 0 2 ∗ srcP c X 0 3) ∗ (srcP c X 1 0 ∗ srcP c X 1 1 ∗ srcP c X 1 2 ∗ srcP c X 1 3)
        ∗ (srcP c X 2 0 ∗ srcP c X 2 1 ∗ srcP c X 2 2 ∗ srcP c X 2 3) ∗ bigSep (Ring.homeSet 3 0) (homeP c X))
      ∗ ((cellP c 0 0 ∗ cellP c 0 1 ∗ cellP c 0 2 ∗ cellP c 0 3) ∗ ∃ f, quartP (F := F) c 0 0 f ∗ quartP c 0 1 f ∗ quartP c 0 2 f ∗ quartP c 0 3 f)
      ∗ ((cellP c 1 0 ∗ cellP c 1 1 ∗ cellP c 1 2 ∗ cellP c 1 3) ∗ ∃ f, quartP (F := F) c 1 0 f ∗ quartP c 1 1 f ∗ quartP c 1 2 f ∗ quartP c 1 3 f)
      ∗ ((cellP c 2 0 ∗ cellP c 2 1 ∗ cellP c 2 2 ∗ cellP c 2 3) ∗ ∃ f, quartP (F := F) c 2 0 f ∗ quartP c 2 1 f ∗ quartP c 2 2 f ∗ quartP c 2 3 f)) := by
  unfold idleP freeP
  rw [homes_zero, home_quarters, home_quarters, home_quarters]
  simp only [slot_quarters]
  exact .rfl
/-- At the loop's exit every block is home and every slot free. -/
theorem res_end (fo : Buf (Elt F) (arg2.view.loc (c : Thread nD τ))) :
    resAt c X arg2 32 fo ⊢ iprop(oP c arg2 fo ∗ (∃ W, owes (c : Thread nD τ) 0 W) ∗ idleP c X) := by
  unfold resAt idleP
  rw [ring_end, Ring.homeSet_last 3 32 (Nat.le_refl 32)]
  iintro ⟨HO, HW, HH, H2, H0, H1⟩
  isplitl [HO]; · iexact HO
  isplitl [HW]; · iexact HW
  isplitl [HH]; · iexact HH
  isplitl [H0]; · iexact H0
  isplitl [H1]; · iexact H1
  iexact H2

/-- The scaled weights the loop uses, read off the weights' staging buffer. -/
abbrev scaledOf (w0 : Buf (Elt F) (arg1.view.loc (c : Thread nD τ))) : FVec F S1x1x128 .f32 :=
  k0_pay93 (View.readAt (Elt F) arg1.view (Rect.unit ![0, 0] S1x128.size inb_S1x128_S1x128_0_0).toLoadRect w0)
/-- What the body leaves in the output's buffer: the 32 trips' blocks stored over what was there. -/
def outOf (w0 : Buf (Elt F) (arg1.view.loc (c : Thread nD τ))) (gO : Buf (Elt F) (arg2.view.loc (c : Thread nD τ))) :
    Buf (Elt F) (arg2.view.loc (c : Thread nD τ)) :=
  oAcc c X arg1 harg1 arg2 harg2 (scaledOf c arg1 w0) gO 32

/-- THE BODY: from every block home and every slot free back to that, the output's buffer at `outOf`. -/
theorem bodyRun (w0 : Buf (Elt F) (arg1.view.loc (c : Thread nD τ))) (gO W) (Q : PUnit → sProp 𝕄) :
    iprop((wP c arg1 w0 ∗ oP c arg2 gO ∗ idleP c X ∗ owes (c : Thread nD τ) 0 W)
        ∗ (wP c arg1 w0 ∗ oP c arg2 (outOf c X arg1 harg1 arg2 harg2 w0 gO) ∗ idleP c X ∗ (∃ W, owes (c : Thread nD τ) 0 W) -∗ Q ⟨⟩))
      ⊢ wp frame (wpE (defs₀ (F := F)) 𝒱₀ (c : Thread nD τ) none) Set.univ (bodyG arg1 harg1 arg2 harg2) Q := by
  iintro ⟨⟨Hw, HO, HI, HW⟩, Hk⟩
  ihave HI' := (idle_open c X) $$ HI
  icases HI' with ⟨⟨⟨Ha0, Ha1, Ha2, Ha3⟩, ⟨Hb0, Hb1, Hb2, Hb3⟩, ⟨Hd0, Hd1, Hd2, Hd3⟩, HH⟩,
    ⟨⟨Hx0, Hx1, Hx2, Hx3⟩, ⟨%f0, ⟨Hp0, Hp1, Hp2, Hp3⟩⟩⟩, ⟨⟨Hy0, Hy1, Hy2, Hy3⟩, ⟨%f1, ⟨Hq0, Hq1, Hq2, Hq3⟩⟩⟩,
    ⟨⟨Hz0, Hz1, Hz2, Hz3⟩, ⟨%f2, ⟨Hr0, Hr1, Hr2, Hr3⟩⟩⟩⟩
  sl_exec
  ihave HR := (show (resAt c X arg2 0 gO ⊢ resAt c X arg2 0 gO) from .rfl) $$ [HO HW HH Hx0 Hx1 Hx2 Hx3 Hy0 Hy1 Hy2 Hy3 Hz0 Hz1 Hz2 Hz3]
  · unfold resAt
    rw [ring_start]
    unfold busyP
    isplitl [HO]; · iexact HO
    isplitl [HW]; · iexists _; iexact HW
    isplitl [HH]; · iexact HH
    isplitl [Hx0 Hx1 Hx2 Hx3]
    · isplitl [Hx0]; · iapply (flight_settles c X 0 0 0 _); iexact Hx0
      isplitl [Hx1]; · iapply (flight_settles c X 0 0 1 _); iexact Hx1
      isplitl [Hx2]; · iapply (flight_settles c X 0 0 2 _); iexact Hx2
      iapply (flight_settles c X 0 0 3 _); iexact Hx3
    isplitl [Hy0 Hy1 Hy2 Hy3]
    · isplitl [Hy0]; · iapply (flight_settles c X 1 1 0 _); iexact Hy0
      isplitl [Hy1]; · iapply (flight_settles c X 1 1 1 _); iexact Hy1
      isplitl [Hy2]; · iapply (flight_settles c X 1 1 2 _); iexact Hy2
      iapply (flight_settles c X 1 1 3 _); iexact Hy3
    isplitl [Hz0]; · iapply (flight_settles c X 2 2 0 _); iexact Hz0
    isplitl [Hz1]; · iapply (flight_settles c X 2 2 1 _); iexact Hz1
    isplitl [Hz2]; · iapply (flight_settles c X 2 2 2 _); iexact Hz2
    iapply (flight_settles c X 2 2 3 _); iexact Hz3
  sl_for (fun k _ => resAt c X arg2 k (oAcc c X arg1 harg1 arg2 harg2 (scaledOf c arg1 w0) gO k)) $$ [HR]
  case region => intro k _; exact trip_step c X arg1 harg1 arg2 harg2 _ gO k
  · iexact HR
  iintro %_ H
  sl_step
  iapply Hk
  ihave H2 := (show resAt c X arg2 (Scf.trips k0_t1_loop.lb k0_t1_loop.ub k0_t1_loop.st) (oAcc c X arg1 harg1 arg2 harg2 (scaledOf c arg1 w0) gO (Scf.trips k0_t1_loop.lb k0_t1_loop.ub k0_t1_loop.st))
      ⊢ resAt c X arg2 32 (outOf c X arg1 harg1 arg2 harg2 w0 gO) from entails_of_eq (congrArg (fun n => resAt c X arg2 n (oAcc c X arg1 harg1 arg2 harg2 (scaledOf c arg1 w0) gO n)) trips_eq)) $$ H
  ihave H3 := (res_end c X arg2 (outOf c X arg1 harg1 arg2 harg2 w0 gO)) $$ H2
  icases H3 with ⟨HO, HW, HI⟩
  isplitl [Hw]; · iexact Hw
  isplitl [HO]; · iexact HO
  isplitl [HI]; · iexact HI
  iexact HW

end Cert.Proof.Stream

end
-- ==== Proof.Stored.lean ====
/-
  What the body leaves in the output's buffer: row block `k` is what trip `k` stores, whatever was there before.
-/
module

public import proofs.«01_k».proof.Proof.Body
public import Idealize.ShloMosaic.Lib.ValueIdxCore
public import Idealize.ShloMosaic.Lib.WritesUnit

@[expose] public section

noncomputable section

namespace Cert.Proof.Stream

open Cert.KernelIdeal Cert.KernelIdeal.Gen
open Idealize.ShloMosaic
open Idealize.ShloMosaic.TcCoe Idealize.ShloMosaic.Tactic Idealize.ShloMosaic.ValueIdx

variable {F : FTy → Type} [FloatOps F] [Named F]
variable (c : Dev nD) (X : Buf (Elt F) (xM.view.loc (c : Thread nD τ)))
  (arg1 : Memref sig .tc .vmem S1x128 .f32) (harg1 : arg1.IsWhole)
  (arg2 : Memref sig .tc .vmem S32x8x128 .f32) (harg2 : arg2.IsWhole)
  (v4 : FVec F S1x1x128 .f32)

/-- The block trip `k` stores. -/
abbrev stored (k : Fin k0_t1_loop.trips) : FVec F S1x8x128 .f32 :=
  (tripRun c X arg1 harg1 arg2 harg2 v4 k arg2.view.junk).1
/-- What a trip stores does not depend on the output's buffer. -/
theorem stored_eq (k : Fin k0_t1_loop.trips) (fo) : (tripRun c X arg1 harg1 arg2 harg2 v4 k fo).1 = stored c X arg1 harg1 arg2 harg2 v4 k := rfl

/-- Once trip `y 0` is past, the output's buffer at `y` reads what that trip stored. -/
theorem oAcc_read (o0 : Buf (Elt F) (arg2.view.loc (c : Thread nD τ))) (y : S32x8x128.Idx) (hy : (y 0).val < k0_t1_loop.trips) :
    ∀ k : ℕ, k ≤ 32 → (y 0).val < k → arg2.view.read (Elt F) (oAcc c X arg1 harg1 arg2 harg2 v4 o0 k) y
      = stored c X arg1 harg1 arg2 harg2 v4 ⟨(y 0).val, hy⟩ (ix3 0 (y 1) (y 2))
  | 0, _, h => absurd h (Nat.not_lt_zero _)
  | k + 1, hk, h => by
    have hkt : k < k0_t1_loop.trips := by rw [trips_eq]; omega
    rw [oAcc, dif_pos hkt]
    by_cases e : (y 0).val = k
    · have ek : (⟨k, hkt⟩ : Fin k0_t1_loop.trips) = ⟨(y 0).val, hy⟩ := Fin.ext e.symm
      rw [ek, stored_eq]
      refine View.read_writes_cons_unit_of_mem (s := S32x8x128) arg2.view _ _ _ _ y (ix3 0 (y 1) (y 2)) (off13_eq _) ?_
      intro a
      match a with
      | 0 => simp [ix3]
      | 1 => simp [ix3]
      | 2 => simp [ix3]
    · refine (View.read_writes_cons_unit_of_not_mem (s := S32x8x128) arg2.view _ _ _ _ y (off13_eq _) 0 (Or.inl ?_)).trans ?_
      · show (y 0).val < k; omega
      · exact oAcc_read o0 y hy k (by omega) (by omega)

/-- What the body leaves, at `y`. -/
theorem outOf_read (w0 : Buf (Elt F) (arg1.view.loc (c : Thread nD τ))) (gO : Buf (Elt F) (arg2.view.loc (c : Thread nD τ))) (y : S32x8x128.Idx) :
    arg2.view.read (Elt F) (outOf c X arg1 harg1 arg2 harg2 w0 gO) y
      = stored c X arg1 harg1 arg2 harg2 (scaledOf c arg1 w0) ⟨(y 0).val, by rw [trips_eq]; exact (y 0).isLt⟩ (ix3 0 (y 1) (y 2)) :=
  oAcc_read c X arg1 harg1 arg2 harg2 _ gO y (by rw [trips_eq]; exact (y 0).isLt) 32 (Nat.le_refl _) (y 0).isLt

end Cert.Proof.Stream

end
-- ==== Proof.Run.lean ====
/-
  The launch: the kernel's own semaphores and scratch buffer as the ring's pieces, the proof data of the one region, its
  body obligation, and the run of @main. Every weakly fair execution ends, with the arguments as launched, the semaphores
  at zero, and the result the reshape of what the kernel leaves in its output array.
-/
module

public import proofs.«01_k».proof.Proof.Stored
public import proofs.«01_k».proof.Proof.Gen.KernelIdeal.Frame

@[expose] public section

noncomputable section

namespace Cert.Proof.Stream

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UU nD τ) ℕ

/-! ## The kernel's own semaphores and buffer -/

/-- The twelve semaphores, slot by slot. -/
abbrev osem : Fin 12 → SemLoc sig :=
  ![.dma (csm 0 0).sem, .dma (csm 0 1).sem, .dma (csm 0 2).sem, .dma (csm 0 3).sem,
    .dma (csm 1 0).sem, .dma (csm 1 1).sem, .dma (csm 1 2).sem, .dma (csm 1 3).sem,
    .dma (csm 2 0).sem, .dma (csm 2 1).sem, .dma (csm 2 2).sem, .dma (csm 2 3).sem]
theorem ownSemFacts : Pipeline.OwnSemFacts spec0 osem := by decide

theorem ownSems0_eq (c : Dev nD) : (Pipeline.ownSems0 (Ix := Unit) (Name := ℕ) (U := UU nD τ) (Lvl := ℕ) (Val := Elt F) (τ := τ) osem c : sProp 𝕄)
    = iprop(cellP c 0 0 ∗ cellP c 0 1 ∗ cellP c 0 2 ∗ cellP c 0 3 ∗ cellP c 1 0 ∗ cellP c 1 1 ∗ cellP c 1 2 ∗ cellP c 1 3
      ∗ cellP c 2 0 ∗ cellP c 2 1 ∗ cellP c 2 2 ∗ cellP c 2 3) :=
  bigSep_univ_eq_bigSepL [0, 1, 2, 3, 4, 5, 6, 7, 8, 9, 10, 11] (by decide) (by decide) _

/-- The sequence array whole is its 32 blocks. -/
theorem arg_blocks (c : Dev nD) (X : Buf (Elt F) (xM.view.loc (c : Thread nD τ))) :
    (((c : Thread nD τ).loc main_arg0) ↦{fullShare} X : sProp 𝕄) = bigSep Finset.univ (homeP c X) :=
  Ring.pointsTo_blocks (ℓ := (c : Thread nD τ).loc main_arg0) blockSet blocks_disjoint blocks_cover X

/-- The buffer whole, at anything, is its three slots, each at anything. -/
theorem buf_slots (c : Dev nD) :
    iprop(∃ f : Buf (Elt F) ((c : Thread nD τ).loc cc0_scratch0), ((c : Thread nD τ).loc cc0_scratch0) ↦{fullShare} f)
      ⊢ (iprop((∃ f, slotP c 0 f) ∗ (∃ f, slotP c 1 f) ∗ ∃ f, slotP c 2 f) : sProp 𝕄) := by
  iintro ⟨%f, H⟩
  ihave H3 := (entails_of_eq ((Ring.pointsTo_blocks (Ix := Unit) (Name := ℕ) (U := UU nD τ) (Lvl := ℕ) (q := fullShare)
    (ℓ := (c : Thread nD τ).loc cc0_scratch0) slotSet slots_disjoint slots_cover f).trans (Ring.bigSep_fin3 _))) $$ H
  icases H3 with ⟨H0, H1, H2⟩
  isplitl [H0]
  · iexists f; iexact H0
  isplitl [H1]
  · iexists f; iexact H1
  iexists f; iexact H2
theorem slots_buf (c : Dev nD) :
    iprop((∃ f, slotP c 0 f) ∗ (∃ f, slotP c 1 f) ∗ ∃ f, slotP c 2 f)
      ⊢ (iprop(∃ f : Buf (Elt F) ((c : Thread nD τ).loc cc0_scratch0), ((c : Thread nD τ).loc cc0_scratch0) ↦{fullShare} f) : sProp 𝕄) := by
  iintro ⟨⟨%f0, H0⟩, ⟨%f1, H1⟩, ⟨%f2, H2⟩⟩
  iapply (Ring.pointsTo_blocks_join_exists (ℓ := (c : Thread nD τ).loc cc0_scratch0) slotSet slots_disjoint slots_cover f0)
  irw [Ring.bigSep_fin3]
  isplitl [H0]
  · iexists f0; iexact H0
  isplitl [H1]
  · iexists f1; iexact H1
  iexists f2; iexact H2

/-! ## The region's proof data -/

variable (m : (ℓ : Loc nD τ sig) → Buf (Elt F) ℓ) (ρ : Dev nD → PrngReg)

/-- The sequence array as the kernel finds it. -/
abbrev XA (c : Dev nD) : Buf (Elt F) (xM.view.loc (c : Thread nD τ)) := V m c main_arg0
/-- What the core keeps around its one point: blocks home, slots free, the random register. -/
def ΦK (c : Dev nD) : sProp 𝕄 := iprop(idleP c (XA m c) ∗ ∃ r, prngReg c r)

abbrev stW (t : Fin cfg0.N) : Memref sig .tc .vmem S1x128 .f32 := win0_0.stage (cfg0.slots t 0)
abbrev stO (t : Fin cfg0.N) : Memref sig .tc .vmem S32x8x128 .f32 := win0_1.stage (cfg0.slots t 1)
abbrev hstW (t : Fin cfg0.N) : (stW t).IsWhole := hstage0_0 0
abbrev hstO (t : Fin cfg0.N) : (stO t).IsWhole := hstage0_1 0

/-- What the body leaves in the output's buffer does not depend on what was there. -/
theorem outOf_congr (c : Dev nD) (t : Fin cfg0.N) (w0) (g g') :
    (stO t).view.read (Elt F) (outOf c (XA m c) (stW t) (hstW t) (stO t) (hstO t) w0 g)
      = (stO t).view.read (Elt F) (outOf c (XA m c) (stW t) (hstW t) (stO t) (hstO t) w0 g') :=
  funext fun y => (outOf_read ..).trans (outOf_read ..).symm

/-- What the body leaves in the output's buffer at point `t`. -/
def outAt (c : Dev nD) (t : Fin cfg0.N) : (cfg0.win 1).block.Idx → Elt F (cfg0.win 1).elt :=
  (stO t).view.read (Elt F) (outOf c (XA m c) (stW t) (hstW t) (stO t) (hstO t) ((stW t).view.rep (iblk m c 0 t)) (stO t).view.junk)

def dats (_ : Fin 1) (c : Dev nD) : Dat τ (Elt F) Unit ℕ (UU nD τ) ℕ cfg0 c where
  A w := V m c (Pipeline.arrRef spec0 w)
  after w t := match w with
    | ⟨0, _⟩ => iblk m c 0 t
    | ⟨1, _⟩ => outAt m c t
  Φ _ := ΦK m c
  q _ := fullShare
  owed _ := 0

theorem before_w0 (c : Dev nD) (t : Fin cfg0.N) (d) : (dats m 0 c).before 0 t d = iblk m c 0 t := by
  unfold Dat.before; rw [if_pos (fetch0_0 t)]; unfold Dat.fetched Dat.blockOf iblk; dsimp only [dats]; rfl
theorem after_w0 (c : Dev nD) (t : Fin cfg0.N) : (dats m 0 c).after 0 t = iblk m c 0 t := by dsimp only [dats]
theorem after_w1 (c : Dev nD) (t : Fin cfg0.N) : (dats m 0 c).after 1 t = outAt m c t := by dsimp only [dats]

/-- The body the pipeline calls is the kernel on the point's staging buffers. -/
theorem defs_tc : (defs₀ (F := F)) .tc cfg0.body
    = fun a => bodyG (win0_0.stage (a.2 0)) (hstage0_0 0) (win0_1.stage (a.2 1)) (hstage0_1 0) := rfl
theorem prog_eq (t : Fin cfg0.N) : (defs₀ (F := F)) .tc cfg0.body (cfg0.bodyArgs t (cfg0.slots t)) = bodyG (stW t) (hstW t) (stO t) (hstO t) :=
  (congrFun defs_tc _).trans rfl

set_option backward.isDefEq.respectTransparency.types false in
theorem body_obligation (c : Dev nD) : BodyObligation (dats (F := F) m 0 c) (defs₀ (F := F)) 𝒱₀ () Set.univ := fun t => by
  rw [bigSep_W0, bigSep_W0]
  dsimp only
  simp only [before_w0, after_w0, after_w1]
  rw [show (dats m 0 c).Φ t.castSucc = ΦK m c from rfl, show (dats m 0 c).Φ t.succ = ΦK m c from rfl]
  unfold Dat.owesAt Pipeline.owesWithin
  rw [show (dats m 0 c).owed t.castSucc = 0 from rfl, show (dats m 0 c).owed t.succ = 0 from rfl]
  unfold owns ΦK
  iintro ⟨⟨HI, HP⟩, ⟨%W, -, HW⟩, ⟨%d0, %w0, %hw0, Hw⟩, ⟨%d1, %gO, -, HO⟩⟩
  ihave Hw' := (pointsTo_rep_entails (c : Thread nD τ) (stW t) w0 fullShare) $$ Hw
  rw [hw0]
  sl_rw [prog_eq t]
  iapply (bodyRun c (XA m c) (stW t) (hstW t) (stO t) (hstO t) _ gO W)
  isplitl [Hw' HO HI HW]
  · isplitl [Hw']; · iexact Hw'
    isplitl [HO]; · iexact HO
    isplitl [HI]; · iexact HI
    iexact HW
  · iintro ⟨Hw, HO, HI, ⟨%W', HW⟩⟩
    isplitl [HI HP]
    · isplitl [HI]; · iexact HI
      iexact HP
    isplitl [HW]
    · iexists W'; isplitr; · ipureintro; exact fun _ _ => Or.inl trivial
      iexact HW
    isplitl [Hw]
    · iexists _; isplitr; · ipureintro; exact View.read_rep _ _
      iexact Hw
    iexists _; isplitr; · ipureintro; exact outOf_congr m c t _ gO _
    iexact HO

/-! ## The run of @main -/

theorem hmain_U : Pipeline.HMainK (Ix := Unit) (Name := ℕ) (U := UU nD τ) (Lvl := ℕ) cfgs 0 defs₀ 𝒱₀ m main (V m)
      (fun _ => Pipeline.chain ([hostOps1 (F := F)].map StableHlo.seq)) :=
  Pipeline.hmain_around cfgs 0 defs₀ 𝒱₀ m main [hostOps0] [hostOps1] (by simp only [List.Forall]; exact hostOps0_sub)
    (by simp only [List.Forall]; exact hostOps0_fresh) main_chain

/-- The buffer the kernel copies out of by itself. -/
abbrev ownRefs : Finset (Ref sig .tc) := {main_arg0}

theorem tail_sub : ∀ ops ∈ ([hostOps1] : List (List (HloOp τ sig (Elt F)))), ∀ op ∈ ops,
    op.bufs ⊆ Pipeline.tailRefsBut sig Pipeline.Prefetch.none spec0 ownRefs := by
  intro ops hops op hop
  simp only [List.mem_cons, List.mem_nil_iff, or_false] at hops
  subst hops
  simp only [hostOps1, List.mem_cons, List.mem_nil_iff, or_false] at hop
  subst hop
  refine Pipeline.sub_tailRefsBut _ _ _ _ (StableHlo.reshape_bufs_sub ..) (fun k => k.elim0) ?_
  intro b hb
  rw [Finset.mem_singleton] at hb; subst hb
  simp only [StableHlo.reshape_bufs, Finset.mem_insert, Finset.mem_singleton, not_or]
  exact ⟨StableHlo.devRef_ne_of_ne (by decide), StableHlo.devRef_ne_of_ne (by decide)⟩

/-- What is kept around the point, from and to what the launch hands over. -/
theorem ΦK_in (c : Dev nD) : Pipeline.ΦD osem spec0 ownRefs (V m) c ⊢ (ΦK m c : sProp 𝕄) := by
  rw [Pipeline.ΦD_eq, scopedRest0_eq, ownSems0_eq, bigSep_singleton, arg_blocks]
  unfold ΦK idleP freeP
  iintro ⟨HB, HP, ⟨Ha0, Ha1, Ha2, Ha3, Hb0, Hb1, Hb2, Hb3, Hc0, Hc1, Hc2, Hc3⟩, HX⟩
  ihave HS := (buf_slots c) $$ HB
  icases HS with ⟨HS0, HS1, HS2⟩
  isplitr [HP]
  · isplitl [HX]; · iexact HX
    isplitl [Ha0 Ha1 Ha2 Ha3 HS0]
    · isplitr [HS0]
      · isplitl [Ha0]; · iexact Ha0
        isplitl [Ha1]; · iexact Ha1
        isplitl [Ha2]; · iexact Ha2
        iexact Ha3
      iexact HS0
    isplitl [Hb0 Hb1 Hb2 Hb3 HS1]
    · isplitr [HS1]
      · isplitl [Hb0]; · iexact Hb0
        isplitl [Hb1]; · iexact Hb1
        isplitl [Hb2]; · iexact Hb2
        iexact Hb3
      iexact HS1
    isplitr [HS2]
    · isplitl [Hc0]; · iexact Hc0
      isplitl [Hc1]; · iexact Hc1
      isplitl [Hc2]; · iexact Hc2
      iexact Hc3
    iexact HS2
  iexact HP
theorem ΦK_out (c : Dev nD) : (ΦK m c : sProp 𝕄) ⊢ Pipeline.ΦD osem spec0 ownRefs (V m) c := by
  rw [Pipeline.ΦD_eq, scopedRest0_eq, ownSems0_eq, bigSep_singleton, arg_blocks]
  unfold ΦK idleP freeP
  iintro ⟨⟨HX, ⟨⟨Ha0, Ha1, Ha2, Ha3⟩, HS0⟩, ⟨⟨Hb0, Hb1, Hb2, Hb3⟩, HS1⟩, ⟨⟨Hc0, Hc1, Hc2, Hc3⟩, HS2⟩⟩, HP⟩
  isplitl [HS0 HS1 HS2]
  · iapply (slots_buf c)
    isplitl [HS0]; · iexact HS0
    isplitl [HS1]; · iexact HS1
    iexact HS2
  isplitl [HP]; · iexact HP
  isplitr [HX]
  · isplitl [Ha0]; · iexact Ha0
    isplitl [Ha1]; · iexact Ha1
    isplitl [Ha2]; · iexact Ha2
    isplitl [Ha3]; · iexact Ha3
    isplitl [Hb0]; · iexact Hb0
    isplitl [Hb1]; · iexact Hb1
    isplitl [Hb2]; · iexact Hb2
    isplitl [Hb3]; · iexact Hb3
    isplitl [Hc0]; · iexact Hc0
    isplitl [Hc1]; · iexact Hc1
    isplitl [Hc2]; · iexact Hc2
    iexact Hc3
  iexact HX

/-- THE RUN of @main: its arrays end at what the region leaves, every other buffer at what the host lines leave, the
    semaphores at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_dma_around cfgs (dats m) 0 launch0 osem defs₀ 𝒱₀ ownSemFacts ownRefs (by decide) m ρ main
    (fun c => (body_obligation m c).loose) (fun c => (dats m 0 c).share_full fun _ => rfl) (fun _ _ => rfl)
    (V0 m) [hostOps1] tail_sub sfx_fresh sfx_keeps (hmain_U m) (fun _ _ => rfl) (ΦK_in m) (ΦK_out m) _ (fun _ h => h)

end Cert.Proof.Stream

end
-- ==== Proof.Results.lean ====
/-
  What the run's post says of the arguments and of the result: the arguments are as launched, and the result is the
  reshape of the 32 stored row blocks.
-/
module

public import proofs.«01_k».proof.Proof.Run
public import Idealize.ShloMosaic.Lib.Pipeline.Value

@[expose] public section

noncomputable section

namespace Cert.Proof.Stream

open Cert.KernelIdeal Cert.KernelIdeal.Gen
open Idealize.ShloMosaic
open Idealize.ShloMosaic.TcCoe Idealize.ShloMosaic.ValueIdx
open Idealize.SL Idealize.SL.Sem
open Idealize.ShloMosaic.Pipeline (Dat)

variable {F : FTy → Type} [FloatOps F] [Named F]
variable (m : (ℓ : Loc nD τ sig) → Buf (Elt F) ℓ) (ρ : Dev nD → PrngReg)

/-- The host line after the region writes the result only. -/
theorem tail_keeps (b : Ref sig .tc) (hb : b ≠ main_v2) (c : Dev nD) (V : Valuation τ sig (Elt F)) :
    StableHlo.after ([hostOps1].flatten : List (HloOp τ sig (Elt F))) V (Proc.devRef .tc b) = V (Proc.devRef .tc b) :=
  StableHlo.after_of_forall_not_mem (b := Proc.devRef .tc b) _ _ (List.forall_iff_forall_mem.mp (by
    simp only [hostOps1, List.flatten_cons, List.flatten_nil, List.append_nil, List.Forall, StableHlo.reshape_writes, Finset.mem_singleton]
    exact StableHlo.devRef_ne_of_ne hb))

/-- The arguments end as launched. -/
theorem tail_arg0 (c : Dev nD) : Pipeline.afterTail₀ cfgs (dats m) 0 (V0 m) [hostOps1] c main_arg0 = m ((c : Thread nD τ).loc main_arg0) := by
  unfold Pipeline.afterTail₀
  rw [tail_keeps main_arg0 (by decide) c, Pipeline.withArrays_of_ne _ c (V0 m c) _ main_arg0 (by exact (by decide : ∀ w, Pipeline.arrRef spec0 w ≠ main_arg0))]
  exact V_main_arg0 m c
theorem tail_arg1 (c : Dev nD) : Pipeline.afterTail₀ cfgs (dats m) 0 (V0 m) [hostOps1] c main_arg1 = m ((c : Thread nD τ).loc main_arg1) := by
  unfold Pipeline.afterTail₀
  rw [tail_keeps main_arg1 (by decide) c, Pipeline.withArrays_of_ne _ c (V0 m c) _ main_arg1 (by exact (by decide : ∀ w, Pipeline.arrRef spec0 w ≠ main_arg1))]
  exact V_main_arg1 m c

/-- The weights as the kernel's staging buffer holds them: the host's reshape of the second argument. -/
theorem weights_eq (c : Dev nD) (t : Fin cfg0.N) :
    iblk m c 0 t = shapeCast S1x128 (m ((c : Thread nD τ).loc main_arg1)) shapeCasts_S128x1_S1x128 := by
  have e : V m c main_v0 = shapeCast S1x128 (m ((c : Thread nD τ).loc main_arg1)) shapeCasts_S128x1_S1x128 := by
    show StableHlo.after [StableHlo.reshape main_arg1 main_v0 _ _] _ _ = _
    after_results <;> rfl
  have hi : ∀ a, win0_0.index t a = 0 := fun a => by rfl
  funext y
  unfold iblk
  rw [View.read_apply]
  have he : ((cfg0.win 0).blk t).view.emb y = y := funext fun a => Fin.ext (by
    exact Pipeline.Window.rect_emb_val_of_index_zero win0_0 t a (hi a) y)
  exact (congrArg (V m c main_v0) he).trans (congrFun e y)

/-- A whole-array window's moved part is its contents. -/
theorem cut_out (t : Fin cfg0.N) (G : (cfg0.win 1).block.Idx → Elt F (cfg0.win 1).elt) : (cfg0.win 1).cut (cfg0.grid.coords t) G = G := rfl

/-- The row block the trip `y 0` stores, at `y`, of the arrays as launched. -/
def outVal (c : Dev nD) : S32x8x128.Idx → Elt F .f32 := outAt m c t0_0
theorem outVal_eq (c : Dev nD) : outVal m c = outAt m c t0_0 := rfl

attribute [local irreducible] outAt outVal in
/-- The kernel's output array ends at the stored row blocks. -/
theorem arr_out (c : Dev nD) : (dats m 0 c).arrAt 1 cfg0.N = outVal m c := by
  have hi : ∀ (t : Fin cfg0.N) a, win0_1.index t a = 0 := fun t a => by rfl
  have he : ∀ (t : Fin cfg0.N) y, ((cfg0.win 1).blk t).view.emb y = y := fun t y => funext fun a => Fin.ext (by
    exact Pipeline.Window.rect_emb_val_of_index_zero win0_1 t a (hi t a) y)
  refine (dats m 0 c).arrAt_eq_of_cover 1 (outVal m c) ?_ ?_
  · intro t _
    funext y
    rw [View.read_apply]
    have e : t = t0_0 := fin_N0 t
    subst e
    rw [Dat.flushed, after_w1, cut_out]
    rw [← outVal_eq]
    exact (congrArg (outVal m c) (he t0_0 y)).symm
  · intro i
    refine ⟨t0_0, flush0_1 _, ?_⟩
    have h := ((cfg0.win 1).blk t0_0).view.emb_mem_set i
    rwa [he t0_0 i] at h

/-- The result is the reshape of the stored row blocks. -/
theorem tail_out (c : Dev nD) : Pipeline.afterTail₀ cfgs (dats m) 0 (V0 m) [hostOps1] c main_v2 = shapeCast S256x128 (outVal m c) shapeCasts_S32x8x128_S256x128 := by
  unfold Pipeline.afterTail₀
  have e : Pipeline.withArrays spec0 c (V0 m c) (fun w => (dats m 0 c).arrAt w cfg0.N) (Proc.devRef .tc main_v1) = outVal m c :=
    (Pipeline.withArrays_arr spec0 launch0.win.arr_inj c (V0 m c) (fun w => (dats m 0 c).arrAt w cfg0.N) 1).trans (arr_out m c)
  refine Eq.trans (b := shapeCast S256x128 (Pipeline.withArrays spec0 c (V0 m c) (fun w => (dats m 0 c).arrAt w cfg0.N) (Proc.devRef .tc main_v1)) shapeCasts_S32x8x128_S256x128) ?_
    (congrArg (fun f : S32x8x128.Idx → Elt F .f32 => shapeCast S256x128 f shapeCasts_S32x8x128_S256x128) e)
  show StableHlo.after [StableHlo.reshape main_v1 main_v2 _ _] _ _ = _
  after_results <;> rfl

/-- THE RUN, read at the result and the arguments. -/
theorem run_value : θ_run defs (onTc (τ := τ) (main (F := F))) ⟨m, fun _ => 0, ρ⟩ (fun r => (∀ c : Dev nD,
      r.2.mem ((c.tc : Thread nD τ).loc main_v2) = shapeCast S256x128 (outVal m c) shapeCasts_S32x8x128_S256x128
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c =>
      ⟨((h.1 c).2 main_v2 (Pipeline.mem_restRefs_of main_v2 (by decide) (by decide))).trans (tail_out m c),
       ((h.1 c).2 main_arg0 (Pipeline.mem_restRefs_of main_arg0 (by decide) (by decide))).trans (tail_arg0 m c),
       ((h.1 c).2 main_arg1 (Pipeline.mem_restRefs_of main_arg1 (by decide) (by decide))).trans (tail_arg1 m c)⟩, h.2⟩) (run_main m ρ)

end Cert.Proof.Stream

end
-- ==== Proof.Chunk.lean ====
/-
  One run of 256 positions of a block, as the kernel computes with it: its scores, their largest, the weights at a base,
  the weights' sum and their pull; and the three running arrays as the kernel updates them. What a trip stores is these,
  over its block's sixteen runs.
-/
module

public import proofs.«01_k».proof.Proof.Stored

@[expose] public section

noncomputable section

namespace Cert.Proof.Stream

open Cert.KernelIdeal Cert.KernelIdeal.Gen
open Idealize.ShloMosaic
open Idealize.ShloMosaic.TcCoe Idealize.ShloMosaic.ValueIdx

section Ops

variable {F : FTy → Type} [FloatOps F]

/-- The scores of a run of positions. -/
def scores (v4 : FVec F S1x1x128 .f32) (x : FVec F S8x256x128 .f32) : FVec F S8x256x1 .f32 :=
  shapeCast S8x256x1 (multiReduction .add [2] S8x256 (mulf (tanh x) (broadcastTo S8x256x128 v4 broadcasts_S1x1x128_S8x256x128)) 0x00000000#32 reduces_S8x256x128_S8x256 (.inl rfl) rfl) shapeCasts_S8x256_S8x256x1
/-- The largest score of each row. -/
def largest (s : FVec F S8x256x1 .f32) : FVec F S8x1x1 .f32 :=
  shapeCast S8x1x1 (multiReduction .maximumf [1] S8x1 s 0xFF800000#32 reduces_S8x256x1_S8x1 (.inl rfl) rfl) shapeCasts_S8x1_S8x1x1
/-- The weights of the scores `s` at the base `m`. -/
def weights (s : FVec F S8x256x1 .f32) (m : FVec F S8x1x1 .f32) : FVec F S8x256x1 .f32 :=
  exp2 (subf s (broadcastTo S8x256x1 m broadcasts_S8x1x1_S8x256x1))
/-- Their sum in each row, -/
def mass (p : FVec F S8x256x1 .f32) : FVec F S8x1x1 .f32 :=
  shapeCast S8x1x1 (multiReduction .add [1] S8x1 p 0x00000000#32 reduces_S8x256x1_S8x1 (.inl rfl) rfl) shapeCasts_S8x1_S8x1x1
/-- and the weighted sum of the positions. -/
def pull (x : FVec F S8x256x128 .f32) (p : FVec F S8x256x1 .f32) : FVec F S8x1x128 .f32 :=
  shapeCast S8x1x128 (multiReduction .add [1] S8x128 (mulf x (broadcastTo S8x256x128 p broadcasts_S8x256x1_S8x256x128)) 0x00000000#32 reduces_S8x256x128_S8x128 (.inl rfl) rfl) shapeCasts_S8x128_S8x1x128

/-- The running arrays: the base, the mass and the pull. -/
structure Acc (F : FTy → Type) where
  m : FVec F S8x1x1 .f32
  d : FVec F S8x1x1 .f32
  a : FVec F S8x1x128 .f32

/-- After the first run, -/
def Acc.first (v4 : FVec F S1x1x128 .f32) (x : FVec F S8x256x128 .f32) : Acc F where
  m := largest (scores v4 x)
  d := mass (weights (scores v4 x) (largest (scores v4 x)))
  a := pull x (weights (scores v4 x) (largest (scores v4 x)))
/-- and after one more. -/
def Acc.step (v4 : FVec F S1x1x128 .f32) (A : Acc F) (x : FVec F S8x256x128 .f32) : Acc F where
  m := maximumf A.m (largest (scores v4 x))
  d := mulf (addf A.d (mass (weights (scores v4 x) A.m))) (exp2 (subf A.m (maximumf A.m (largest (scores v4 x)))))
  a := mulf (addf A.a (pull x (weights (scores v4 x) A.m))) (broadcastTo S8x1x128 (exp2 (subf A.m (maximumf A.m (largest (scores v4 x))))) broadcasts_S8x1x1_S8x1x128)
/-- The rows the kernel stores at the end. -/
def Acc.rows (A : Acc F) : FVec F S1x8x128 .f32 :=
  shapeCast S1x8x128 (divf A.a (broadcastTo S8x1x128 A.d broadcasts_S8x1x1_S8x1x128)) shapeCasts_S8x1x128_S1x8x128
/-- The running arrays after run `c` of a block whose runs are `xs`. -/
def Acc.after (v4 : FVec F S1x1x128 .f32) (xs : ℕ → FVec F S8x256x128 .f32) : ℕ → Acc F
  | 0 => Acc.first v4 (xs 0)
  | c + 1 => Acc.step v4 (Acc.after v4 xs c) (xs (c + 1))

end Ops

variable {F : FTy → Type} [FloatOps F] [Named F]
variable (c : Dev nD) (X : Buf (Elt F) (xM.view.loc (c : Thread nD τ)))
  (arg1 : Memref sig .tc .vmem S1x128 .f32) (harg1 : arg1.IsWhole)
  (arg2 : Memref sig .tc .vmem S32x8x128 .f32) (harg2 : arg2.IsWhole)
  (v4 : FVec F S1x1x128 .f32)

/-- Where run `j` starts in its block: runs are counted round sixteen. -/
theorem run_inb (j : ℕ) : ∀ d : Fin 3, (![0, j % 16 * 256, 0] : Fin 3 → ℕ) d + S8x256x128.size d ≤ S8x4096x128.size d
  | 0 => by show 0 + 8 ≤ 8; omega
  | 1 => by have h := Nat.mod_lt j (y := 16) (by decide); show j % 16 * 256 + 256 ≤ 4096; omega
  | 2 => by show 0 + 128 ≤ 128; omega

/-- Run `j` of trip `k`'s block, as the kernel loads it from the block's slot. -/
def runOf (k : Fin k0_t1_loop.trips) (j : ℕ) : FVec F S8x256x128 .f32 :=
  View.readAt (Elt F) (slot (Ring.sl 3 k.val)).view (Rect.unit (s := S8x4096x128) ![0, j % 16 * 256, 0] S8x256x128.size (run_inb j)).toLoadRect (blockBuf c X (Ring.bk 32 k.val))

/-- It is 256 positions of the block's eight rows of the array. -/
theorem runOf_apply (k : Fin k0_t1_loop.trips) (j : ℕ) (hj : j < 16) (r : Fin 8) (i : Fin 256) (h : Fin 128) (hp : j * 256 + i.val < 4096) (hr : 8 * (Ring.bk 32 k.val).val + r.val < 256) :
    runOf c X k j (ix3 r i h) = X (ix3 (⟨8 * (Ring.bk 32 k.val).val + r.val, hr⟩ : Fin 256) (⟨j * 256 + i.val, hp⟩ : Fin 4096) h) := by
  have hm : j % 16 = j := Nat.mod_eq_of_lt hj
  have e : runOf c X k j (ix3 r i h) = blockBuf c X (Ring.bk 32 k.val) (slotAt (Ring.sl 3 k.val)
      ((Rect.unit (s := S8x4096x128) ![0, j % 16 * 256, 0] S8x256x128.size (run_inb j)).toLoadRect.idx (ix3 r i h))) := rfl
  rw [e]
  obtain ⟨-, h1, h2, h3⟩ := slotAt_val (Ring.sl 3 k.val) ((Rect.unit (s := S8x4096x128) ![0, j % 16 * 256, 0] S8x256x128.size (run_inb j)).toLoadRect.idx (ix3 r i h))
  generalize slotAt _ _ = y at h1 h2 h3 ⊢
  have g1 : (y 1).val = r.val := h1.trans (by show 0 + 1 * r.val = r.val; omega)
  have g2 : (y 2).val = j * 256 + i.val := h2.trans (by show j % 16 * 256 + 1 * i.val = j * 256 + i.val; omega)
  have g3 : (y 3).val = h.val := h3.trans (by show 0 + 1 * h.val = h.val; omega)
  unfold blockBuf
  refine congrArg X (funext fun a => Fin.ext ?_)
  match a with
  | 0 => show 8 * (Ring.bk 32 k.val).val + (y 1).val = 8 * (Ring.bk 32 k.val).val + r.val; omega
  | 1 => exact g2
  | 2 => exact g3

/-- WHAT A TRIP STORES: the rows of the running arrays after the block's sixteen runs. -/
theorem stored_eq_rows (k : Fin k0_t1_loop.trips) :
    stored c X arg1 harg1 arg2 harg2 v4 k = (Acc.after v4 (runOf c X k) 15).rows := rfl

end Cert.Proof.Stream

end
-- ==== Proof.Softmax.lean ====
/-
  The mathematics: a weighted mean of extended reals by positive real weights, that scaling the weights by a positive
  number does not change it, and the running form of it: a base `m`, a mass `d` and a pull `acc`, each relative to the
  base, taken in one run of scores at a time.
-/
module

public import Idealize.ShloMosaic.PureOps.Ideal
public import Mathlib.Algebra.BigOperators.Fin

@[expose] public section

noncomputable section

open scoped BigOperators

namespace Cert.Proof.Softmax

open Idealize.ShloMosaic

/-! ## Real factors over sums of extended reals -/

/-- A nonnegative real factor goes over a sum of extended reals. -/
theorem sum_mul {ι : Type} (s : Finset ι) (f : ι → EReal) {a : ℝ} (ha : 0 ≤ a) : (∑ i ∈ s, f i) * (a : EReal) = ∑ i ∈ s, f i * (a : EReal) := by
  classical
  induction s using Finset.induction_on with
  | empty => simp
  | insert i s hi ih =>
    rw [Finset.sum_insert hi, Finset.sum_insert hi, EReal.right_distrib_of_nonneg_of_ne_top (EReal.coe_nonneg.2 ha) (EReal.coe_ne_top a), ih]

/-- The sum of reals, as an extended real. -/
theorem coe_sum {ι : Type} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- The largest of finitely many reals, at least one, is a real. -/
theorem max_real {n : ℕ} (f : Fin (n + 1) → ℝ) : ∃ M : ℝ, (Finset.univ : Finset (Fin (n + 1))).fold max (⊥ : EReal) (fun i => (f i : EReal)) = (M : EReal) := by
  have hb : (⊥ : EReal) < (Finset.univ : Finset (Fin (n + 1))).fold max (⊥ : EReal) (fun i => (f i : EReal)) :=
    (Finset.lt_fold_max _).2 (Or.inr ⟨0, Finset.mem_univ _, EReal.bot_lt_coe _⟩)
  have ht : (Finset.univ : Finset (Fin (n + 1))).fold max (⊥ : EReal) (fun i => (f i : EReal)) < ⊤ :=
    (Finset.fold_max_lt _).2 ⟨bot_lt_top, fun i _ => EReal.coe_lt_top _⟩
  exact ⟨_, (EReal.coe_toReal ht.ne hb.ne').symm⟩

/-- The larger of two reals, as an extended real. -/
theorem coe_max (a b : ℝ) : ((max a b : ℝ) : EReal) = max (a : EReal) (b : EReal) := EReal.coe_strictMono.monotone.map_max

/-! ## The weighted mean -/

/-- The mean of `x` by the weights `e`: the weighted sum over the sum of the weights. -/
def mean {ι : Type} [Fintype ι] (e : ι → ℝ) (x : ι → EReal) : EReal := (∑ i, x i * (e i : EReal)) * (((∑ i, e i)⁻¹ : ℝ) : EReal)

/-- Scaling every weight by one positive number does not change the mean. -/
theorem mean_scale {ι : Type} [Fintype ι] (e : ι → ℝ) (x : ι → EReal) {a : ℝ} (ha : 0 < a) : mean (fun i => e i * a) x = mean e x := by
  have h : ∀ i, x i * ((e i * a : ℝ) : EReal) = x i * (e i : EReal) * (a : EReal) := fun i => by rw [EReal.coe_mul, mul_assoc]
  unfold mean
  simp only [h]
  rw [← sum_mul _ _ ha.le, ← Finset.sum_mul, mul_assoc, ← EReal.coe_mul, mul_inv, mul_comm (∑ i, e i)⁻¹, ← mul_assoc, mul_inv_cancel₀ ha.ne', one_mul]

/-- The mean with each weight divided by the sum first. -/
theorem mean_divided {ι : Type} [Fintype ι] (e : ι → ℝ) (x : ι → EReal) (he : 0 ≤ ∑ i, e i) :
    ∑ i, x i * ((e i * (∑ j, e j)⁻¹ : ℝ) : EReal) = mean e x := by
  unfold mean
  rw [sum_mul _ _ (inv_nonneg.2 he)]
  exact Finset.sum_congr rfl fun i _ => by rw [EReal.coe_mul, mul_assoc]

/-! ## The running form -/

/-- Two to a real, positive. -/
theorem two_pos (r : ℝ) : 0 < Real.rpow 2 r := Real.rpow_pos_of_pos (by norm_num) r
theorem two_add (r s : ℝ) : Real.rpow 2 (r + s) = Real.rpow 2 r * Real.rpow 2 s := Real.rpow_add (by norm_num) r s

/-- `m`, `d` and `acc` are a real base, and the mass `D` and the pull `A` relative to it. -/
def Seen (D : ℝ) (A : EReal) (m d acc : EReal) : Prop :=
  ∃ M : ℝ, m = (M : EReal) ∧ d = ((D * Real.rpow 2 (-M) : ℝ) : EReal) ∧ acc = A * ((Real.rpow 2 (-M) : ℝ) : EReal)

variable {n : ℕ} (s : Fin n → ℝ) (x : Fin n → EReal)

/-- The mass and the pull of a run of scores relative to a base. -/
theorem mass_eq (M : ℝ) : ∑ k, Ideal.exp2 ((s k : EReal) - (M : EReal)) = (((∑ k, Real.rpow 2 (s k)) * Real.rpow 2 (-M) : ℝ) : EReal) := by
  rw [Finset.sum_mul, coe_sum]
  exact Finset.sum_congr rfl fun k _ => by rw [← EReal.coe_sub, Ideal.exp2_coe, sub_eq_add_neg, two_add]
theorem pull_eq (M : ℝ) : ∑ k, x k * Ideal.exp2 ((s k : EReal) - (M : EReal)) = (∑ k, x k * ((Real.rpow 2 (s k) : ℝ) : EReal)) * ((Real.rpow 2 (-M) : ℝ) : EReal) := by
  rw [sum_mul _ _ (two_pos _).le]
  exact Finset.sum_congr rfl fun k _ => by rw [← EReal.coe_sub, Ideal.exp2_coe, sub_eq_add_neg, two_add, EReal.coe_mul, mul_assoc]

/-- The first run, at any real base. -/
theorem Seen.first (M : ℝ) : Seen (∑ k, Real.rpow 2 (s k)) (∑ k, x k * ((Real.rpow 2 (s k) : ℝ) : EReal)) (M : EReal)
    (∑ k, Ideal.exp2 ((s k : EReal) - (M : EReal))) (∑ k, x k * Ideal.exp2 ((s k : EReal) - (M : EReal))) :=
  ⟨M, rfl, mass_eq s M, pull_eq s x M⟩

/-- A further run: its mass and pull relative to the old base are added, then all is brought to the new base. -/
theorem Seen.step {D : ℝ} {A m d acc : EReal} (h : Seen D A m d acc) (cm : ℝ) :
    Seen (D + ∑ k, Real.rpow 2 (s k)) (A + ∑ k, x k * ((Real.rpow 2 (s k) : ℝ) : EReal)) (max m (cm : EReal))
      ((d + ∑ k, Ideal.exp2 ((s k : EReal) - m)) * Ideal.exp2 (m - max m (cm : EReal)))
      ((acc + ∑ k, x k * Ideal.exp2 ((s k : EReal) - m)) * Ideal.exp2 (m - max m (cm : EReal))) := by
  obtain ⟨M, rfl, rfl, rfl⟩ := h
  have e : Real.rpow 2 (-M) * Real.rpow 2 (M - max M cm) = Real.rpow 2 (-max M cm) := by rw [← two_add]; congr 1; ring
  refine ⟨max M cm, (coe_max M cm).symm, ?_, ?_⟩
  · rw [mass_eq, ← coe_max, ← EReal.coe_sub, Ideal.exp2_coe, ← EReal.coe_add, ← EReal.coe_mul, ← add_mul, mul_assoc, e]
  · rw [pull_eq, ← coe_max, ← EReal.coe_sub, Ideal.exp2_coe,
      ← EReal.right_distrib_of_nonneg_of_ne_top (EReal.coe_nonneg.2 (two_pos _).le) (EReal.coe_ne_top _), mul_assoc, ← EReal.coe_mul, e]

/-- At the end the pull over the mass does not depend on the base. -/
theorem Seen.div {D : ℝ} {A m d acc : EReal} (h : Seen D A m d acc) (hD : 0 < D) : Ideal.div acc d = A * ((D⁻¹ : ℝ) : EReal) := by
  obtain ⟨M, rfl, rfl, rfl⟩ := h
  have hp := two_pos (-M)
  have h0 : D * Real.rpow 2 (-M) ≠ 0 := (mul_pos hD hp).ne'
  unfold Ideal.div
  rw [if_neg (by exact_mod_cast h0), ← EReal.coe_inv, mul_assoc, ← EReal.coe_mul]
  congr 2
  field_simp

/-! ## Sixteen runs of 256 are 4096 -/

/-- A sum over 4096 positions, taken 256 at a time. -/
theorem sum_chunks {β : Type} [AddCommMonoid β] (f : Fin 4096 → β) :
    ∑ s, f s = ∑ c ∈ Finset.range 16, ∑ k : Fin 256, (if h : c * 256 + k.val < 4096 then f ⟨c * 256 + k.val, h⟩ else 0) := by
  rw [Finset.sum_range, ← Fintype.sum_prod_type', ← (finProdFinEquiv (m := 16) (n := 256)).sum_comp]
  refine Finset.sum_congr rfl fun p _ => ?_
  have h1 := p.1.isLt; have h2 := p.2.isLt
  rw [dif_pos (by omega)]
  exact congrArg f (Fin.ext (by simp [finProdFinEquiv]; ring))

end Cert.Proof.Softmax

end
-- ==== Proof.Block.lean ====
/-
  What one trip stores at the extended reals: each row of the block is the mean of its 4096 positions by the weights two to
  the score.
-/
module

public import proofs.«01_k».proof.Proof.Chunk
public import proofs.«01_k».proof.Proof.Softmax
public import Idealize.ShloMosaic.Lib.Pipeline.Value
public import Idealize.ShloMosaic.Lib.ValueIdx
public import Idealize.ShloMosaic.PureOps.Ideal.Laws

@[expose] public section

noncomputable section

open scoped BigOperators

namespace Cert.Proof.Stream

open Cert.KernelIdeal Cert.KernelIdeal.Gen
open Idealize.ShloMosaic
open Idealize.ShloMosaic.TcCoe Idealize.ShloMosaic.ValueIdx
open Cert.Proof.Softmax

/-! ## The operations on a run, read at an index -/

/-- The minus infinity that starts a maximum. -/
theorem neg_inf : Ideal.ofBits .f32 0xFF800000#32 = ⊥ := by simp [Ideal.ofBits, Ideal.ieee]

theorem scores_apply (v4 : FVec Ideal S1x1x128 .f32) (x : FVec Ideal S8x256x128 .f32) (r : Fin 8) (i : Fin 256) :
    scores v4 x (ix3 r i (0 : Fin 1)) = ∑ h : Fin 128, Ideal.tanh (x (ix3 r i h)) * v4 (ix3 (0 : Fin 1) (0 : Fin 1) h) := by
  unfold scores
  rw [shapeCast_apply _ shapeCasts_S8x256_S8x256x1 (ix3 r i (0 : Fin 1)) (ix2 r i) (by
    rw [Shape.rowMajor_val_two, Shape.rowMajor_val_three]; show r.val * 256 + i.val = (r.val * 256 + i.val) * 1 + 0; omega)]
  refine (Ideal.multiReduction_add_single _ _ reduces_S8x256x128_S8x256 _ _ _).trans (Finset.sum_congr rfl fun h _ => ?_)
  have e : reduces_S8x256x128_S8x256.lift (ix2 r i) h = ix3 r i h := funext fun a => Fin.ext (by match a with | 0 => rfl | 1 => rfl | 2 => rfl)
  rw [e]
  refine congrArg (Ideal.tanh (x (ix3 r i h)) * ·) (broadcastTo_apply v4 _ _ _ fun a => ?_)
  match a with | 0 => rfl | 1 => rfl | 2 => rfl

theorem largest_apply (s : FVec Ideal S8x256x1 .f32) (r : Fin 8) :
    largest s (ix3 r (0 : Fin 1) (0 : Fin 1)) = (Finset.univ : Finset (Fin 256)).fold max (⊥ : EReal) (fun i => s (ix3 r i (0 : Fin 1))) := by
  unfold largest
  rw [shapeCast_apply _ shapeCasts_S8x1_S8x1x1 (ix3 r (0 : Fin 1) (0 : Fin 1)) (ix2 r (0 : Fin 1)) (by
    rw [Shape.rowMajor_val_two, Shape.rowMajor_val_three]; show r.val * 1 + 0 = (r.val * 1 + 0) * 1 + 0; omega)]
  refine (Ideal.multiReduction_maximumf_single _ _ reduces_S8x256x1_S8x1 _ _ _).trans ?_
  have e : (s ∘ reduces_S8x256x1_S8x1.lift (ix2 r (0 : Fin 1))) = fun i : Fin 256 => s (ix3 r i (0 : Fin 1)) :=
    funext fun i => congrArg s (funext fun a => Fin.ext (by match a with | 0 => rfl | 1 => rfl | 2 => rfl))
  rw [e]
  exact congrArg (fun b => (Finset.univ : Finset (Fin 256)).fold max b (fun i => s (ix3 r i (0 : Fin 1)))) neg_inf

theorem weights_apply (s : FVec Ideal S8x256x1 .f32) (m : FVec Ideal S8x1x1 .f32) (r : Fin 8) (i : Fin 256) :
    weights s m (ix3 r i (0 : Fin 1)) = Ideal.exp2 (s (ix3 r i (0 : Fin 1)) - m (ix3 r (0 : Fin 1) (0 : Fin 1))) := by
  refine congrArg (fun b => Ideal.exp2 (s (ix3 r i (0 : Fin 1)) - b)) (broadcastTo_apply m _ _ _ fun a => ?_)
  match a with | 0 => rfl | 1 => rfl | 2 => rfl

theorem mass_apply (p : FVec Ideal S8x256x1 .f32) (r : Fin 8) :
    mass p (ix3 r (0 : Fin 1) (0 : Fin 1)) = ∑ i : Fin 256, p (ix3 r i (0 : Fin 1)) := by
  unfold mass
  rw [shapeCast_apply _ shapeCasts_S8x1_S8x1x1 (ix3 r (0 : Fin 1) (0 : Fin 1)) (ix2 r (0 : Fin 1)) (by
    rw [Shape.rowMajor_val_two, Shape.rowMajor_val_three]; show r.val * 1 + 0 = (r.val * 1 + 0) * 1 + 0; omega)]
  refine (Ideal.multiReduction_add_single _ _ reduces_S8x256x1_S8x1 _ _ _).trans (Finset.sum_congr rfl fun i _ => ?_)
  exact congrArg p (funext fun a => Fin.ext (by match a with | 0 => rfl | 1 => rfl | 2 => rfl))

theorem pull_apply (x : FVec Ideal S8x256x128 .f32) (p : FVec Ideal S8x256x1 .f32) (r : Fin 8) (h : Fin 128) :
    pull x p (ix3 r (0 : Fin 1) h) = ∑ i : Fin 256, x (ix3 r i h) * p (ix3 r i (0 : Fin 1)) := by
  unfold pull
  rw [shapeCast_apply _ shapeCasts_S8x128_S8x1x128 (ix3 r (0 : Fin 1) h) (ix2 r h) (by
    rw [Shape.rowMajor_val_two, Shape.rowMajor_val_three]; show r.val * 128 + h.val = (r.val * 1 + 0) * 128 + h.val; omega)]
  refine (Ideal.multiReduction_add_single _ _ reduces_S8x256x128_S8x128 _ _ _).trans (Finset.sum_congr rfl fun i _ => ?_)
  have e : reduces_S8x256x128_S8x128.lift (ix2 r h) i = ix3 r i h := funext fun a => Fin.ext (by match a with | 0 => rfl | 1 => rfl | 2 => rfl)
  rw [e]
  refine congrArg (x (ix3 r i h) * ·) (broadcastTo_apply p _ _ _ fun a => ?_)
  match a with | 0 => rfl | 1 => rfl | 2 => rfl

/-- A row's one value spread over the row's entries. -/
theorem spread_apply (d : FVec Ideal S8x1x1 .f32) (r : Fin 8) (h : Fin 128) :
    broadcastTo S8x1x128 d broadcasts_S8x1x1_S8x1x128 (ix3 r (0 : Fin 1) h) = d (ix3 r (0 : Fin 1) (0 : Fin 1)) :=
  broadcastTo_apply d _ _ _ fun a => by match a with | 0 => rfl | 1 => rfl | 2 => rfl

theorem rows_apply (A : Acc Ideal) (r : Fin 8) (h : Fin 128) :
    A.rows (ix3 (0 : Fin 1) r h) = Ideal.div (A.a (ix3 r (0 : Fin 1) h)) (A.d (ix3 r (0 : Fin 1) (0 : Fin 1))) := by
  unfold Acc.rows
  rw [shapeCast_apply _ shapeCasts_S8x1x128_S1x8x128 (ix3 (0 : Fin 1) r h) (ix3 r (0 : Fin 1) h) (by
    rw [Shape.rowMajor_val_three, Shape.rowMajor_val_three]; show (r.val * 1 + 0) * 128 + h.val = (0 * 8 + r.val) * 128 + h.val; omega)]
  exact congrArg (Ideal.div (A.a (ix3 r (0 : Fin 1) h))) (spread_apply A.d r h)

/-! ## The running arrays -/

section Row

variable (v4 : FVec Ideal S1x1x128 .f32) (xs : ℕ → FVec Ideal S8x256x128 .f32) (r : Fin 8) (h : Fin 128)
  (S : ℕ → Fin 256 → ℝ) (hS : ∀ j i, scores v4 (xs j) (ix3 r i (0 : Fin 1)) = (S j i : EReal))

include hS in
/-- The largest score of a run is a real. -/
theorem largest_real (j : ℕ) : ∃ M : ℝ, largest (scores v4 (xs j)) (ix3 r (0 : Fin 1) (0 : Fin 1)) = (M : EReal) := by
  rw [largest_apply, show (fun i => scores v4 (xs j) (ix3 r i (0 : Fin 1))) = fun i => (S j i : EReal) from funext (hS j)]
  exact max_real (S j)

include hS in
/-- A run's mass and pull at a base. -/
theorem mass_at (j : ℕ) (m : FVec Ideal S8x1x1 .f32) : mass (weights (scores v4 (xs j)) m) (ix3 r (0 : Fin 1) (0 : Fin 1))
    = ∑ i, Ideal.exp2 ((S j i : EReal) - m (ix3 r (0 : Fin 1) (0 : Fin 1))) := by
  rw [mass_apply]; exact Finset.sum_congr rfl fun i _ => by rw [weights_apply, hS]
include hS in
theorem pull_at (j : ℕ) (m : FVec Ideal S8x1x1 .f32) : pull (xs j) (weights (scores v4 (xs j)) m) (ix3 r (0 : Fin 1) h)
    = ∑ i, xs j (ix3 r i h) * Ideal.exp2 ((S j i : EReal) - m (ix3 r (0 : Fin 1) (0 : Fin 1))) := by
  rw [pull_apply]; exact Finset.sum_congr rfl fun i _ => by rw [weights_apply, hS]

include hS in
/-- After run `n` the arrays hold the mass and the pull of the runs so far. -/
theorem after_seen : ∀ n : ℕ, Seen (∑ j ∈ Finset.range (n + 1), ∑ i, Real.rpow 2 (S j i))
      (∑ j ∈ Finset.range (n + 1), ∑ i, xs j (ix3 r i h) * ((Real.rpow 2 (S j i) : ℝ) : EReal))
      ((Acc.after v4 xs n).m (ix3 r (0 : Fin 1) (0 : Fin 1))) ((Acc.after v4 xs n).d (ix3 r (0 : Fin 1) (0 : Fin 1))) ((Acc.after v4 xs n).a (ix3 r (0 : Fin 1) h))
  | 0 => by
    obtain ⟨M, hM⟩ := largest_real v4 xs r S hS 0
    simp only [Finset.sum_range_one, zero_add]
    show Seen _ _ (largest (scores v4 (xs 0)) _) (mass (weights (scores v4 (xs 0)) _) _) (pull (xs 0) (weights (scores v4 (xs 0)) _) _)
    rw [mass_at v4 xs r S hS, pull_at v4 xs r h S hS, hM]
    exact Seen.first (S 0) (fun i => xs 0 (ix3 r i h)) M
  | n + 1 => by
    obtain ⟨M, hM⟩ := largest_real v4 xs r S hS (n + 1)
    rw [Finset.sum_range_succ, Finset.sum_range_succ _ (n + 1)]
    have ih := (after_seen n).step (S (n + 1)) (fun i => xs (n + 1) (ix3 r i h)) M
    rw [← hM, ← mass_at v4 xs r S hS, ← pull_at v4 xs r h S hS] at ih
    have e : (Acc.after v4 xs (n + 1)).a (ix3 r (0 : Fin 1) h) = ((Acc.after v4 xs n).a (ix3 r (0 : Fin 1) h) + pull (xs (n + 1)) (weights (scores v4 (xs (n + 1))) (Acc.after v4 xs n).m) (ix3 r (0 : Fin 1) h))
        * exp2 (subf (Acc.after v4 xs n).m (maximumf (Acc.after v4 xs n).m (largest (scores v4 (xs (n + 1)))))) (ix3 r (0 : Fin 1) (0 : Fin 1)) :=
      congrArg (_ * ·) (spread_apply _ r h)
    rw [e]
    exact ih

include hS in
/-- The row stored after sixteen runs is the mean of its positions by the weights two to the score. -/
theorem rows_mean (s : Fin 4096 → ℝ) (x : Fin 4096 → EReal) (hs : ∀ j (i : Fin 256) (hp : j * 256 + i.val < 4096), S j i = s ⟨j * 256 + i.val, hp⟩)
    (hx : ∀ j (i : Fin 256) (hp : j * 256 + i.val < 4096), xs j (ix3 r i h) = x ⟨j * 256 + i.val, hp⟩) :
    (Acc.after v4 xs 15).rows (ix3 (0 : Fin 1) r h) = mean (fun p => Real.rpow 2 (s p)) x := by
  have hD : ∑ j ∈ Finset.range (15 + 1), ∑ i, Real.rpow 2 (S j i) = ∑ p, Real.rpow 2 (s p) := by
    rw [sum_chunks]
    refine Finset.sum_congr rfl fun j hj => Finset.sum_congr rfl fun i _ => ?_
    have hp : j * 256 + i.val < 4096 := by have := Finset.mem_range.mp hj; have := i.isLt; omega
    rw [dif_pos hp, hs j i hp]
  have hA : ∑ j ∈ Finset.range (15 + 1), ∑ i, xs j (ix3 r i h) * ((Real.rpow 2 (S j i) : ℝ) : EReal) = ∑ p, x p * ((Real.rpow 2 (s p) : ℝ) : EReal) := by
    rw [sum_chunks]
    refine Finset.sum_congr rfl fun j hj => Finset.sum_congr rfl fun i _ => ?_
    have hp : j * 256 + i.val < 4096 := by have := Finset.mem_range.mp hj; have := i.isLt; omega
    rw [dif_pos hp, hs j i hp, hx j i hp]
  have hseen := after_seen v4 xs r h S hS 15
  rw [hD, hA] at hseen
  rw [rows_apply]
  exact hseen.div (Finset.sum_pos (fun p _ => two_pos _) ⟨0, Finset.mem_univ _⟩)

end Row

end Cert.Proof.Stream

end
-- ==== Proof.Pooled.lean ====
/-
  What both programs compute, as mathematics: of a sequence of vectors, its mean by the weights exp of the score, a score
  being the weights' product with the vector's tanh. The weights are real; the vectors' entries need not be.
-/
module

public import proofs.«01_k».proof.Proof.Softmax
public import Idealize.ShloMosaic.Lib.ValueIdxCore

@[expose] public section

noncomputable section

open scoped BigOperators

namespace Cert.Proof.Softmax

open Idealize.ShloMosaic Idealize.ShloMosaic.ValueIdx

/-- tanh of an extended real, a real. -/
def squash (a : EReal) : ℝ := (Ideal.tanh a).toReal
theorem squash_eq (a : EReal) : Ideal.tanh a = (squash a : EReal) := by
  refine (EReal.coe_toReal ?_ ?_).symm
  · induction a using EReal.rec with
    | bot => rw [Ideal.tanh_bot]; decide
    | coe r => rw [Ideal.tanh_coe]; exact EReal.coe_ne_top _
    | top => rw [Ideal.tanh_top]; decide
  · induction a using EReal.rec with
    | bot => rw [Ideal.tanh_bot]; decide
    | coe r => rw [Ideal.tanh_coe]; exact EReal.coe_ne_bot _
    | top => rw [Ideal.tanh_top]; decide

variable (x : (⟨3, ![256, 4096, 128]⟩ : Shape).Idx → EReal) (w : Fin 128 → ℝ)

/-- The score of position `p` of sequence `b`. -/
def score (b : Fin 256) (p : Fin 4096) : ℝ := ∑ h : Fin 128, squash (x (ix3 b p h)) * w h

/-- Entry `h` of sequence `b`'s pooled vector. -/
def pooled (b : Fin 256) (h : Fin 128) : EReal := mean (fun p => Real.exp (score x w b p)) (fun p => x (ix3 b p h))

/-- A score as a sum of extended reals. -/
theorem score_eq (b : Fin 256) (p : Fin 4096) : ∑ h : Fin 128, Ideal.tanh (x (ix3 b p h)) * (w h : EReal) = (score x w b p : EReal) := by
  unfold score
  rw [coe_sum]
  exact Finset.sum_congr rfl fun h _ => by rw [squash_eq, EReal.coe_mul]

/-- With every weight divided by ln 2, so are the scores, and two to a score is exp of the undivided one. -/
theorem two_score (b : Fin 256) (p : Fin 4096) : Real.rpow 2 (score x (fun h => w h * (Real.log 2)⁻¹) b p) = Real.exp (score x w b p) := by
  have hl : Real.log 2 ≠ 0 := (Real.log_pos (by norm_num)).ne'
  have e : score x (fun h => w h * (Real.log 2)⁻¹) b p = score x w b p * (Real.log 2)⁻¹ := by
    unfold score
    rw [Finset.sum_mul]
    exact Finset.sum_congr rfl fun h _ => (mul_assoc _ _ _).symm
  rw [e]
  show (2 : ℝ) ^ (score x w b p * (Real.log 2)⁻¹) = _
  rw [Real.rpow_def_of_pos (by norm_num)]
  congr 1
  field_simp

end Cert.Proof.Softmax

end
-- ==== Proof.KernelValue.lean ====
/-
  What the kernel's result holds at the extended reals, when every weight is a real: the pooled vectors.
-/
module

public import proofs.«01_k».proof.Proof.Results
public import proofs.«01_k».proof.Proof.Block
public import proofs.«01_k».proof.Proof.Pooled

@[expose] public section

noncomputable section

open scoped BigOperators

namespace Cert.Proof.Stream

open Cert.KernelIdeal Cert.KernelIdeal.Gen
open Idealize.ShloMosaic
open Idealize.ShloMosaic.TcCoe Idealize.ShloMosaic.ValueIdx
open Cert.Proof.Softmax

/-- The named constant is one over ln 2. -/
theorem log2e_eq : Named.named (F := Ideal) κ "log2e" (φ := .f32) 0x3FB8AA3B#32 = (((Real.log 2)⁻¹ : ℝ) : EReal) := rfl

/-- The weights as the kernel scales them. -/
theorem scaled_apply (w0 : FVec Ideal S1x128 .f32) (h : Fin 128) :
    k0_pay93 (F := Ideal) w0 (ix3 (0 : Fin 1) (0 : Fin 1) h) = w0 (ix2 (0 : Fin 1) h) * (((Real.log 2)⁻¹ : ℝ) : EReal) := by
  have e1 : shapeCast S1x128 w0 shapeCasts_S1x128_S1x128 = w0 := shapeCast_self _ _
  show shapeCast S1x1x128 (mulf (shapeCast S1x128 w0 shapeCasts_S1x128_S1x128) (broadcast S1x128 (Named.named (F := Ideal) κ "log2e" (φ := .f32) 0x3FB8AA3B#32))) shapeCasts_S1x128_S1x1x128 _ = _
  rw [e1, log2e_eq, shapeCast_apply _ shapeCasts_S1x128_S1x1x128 (ix3 (0 : Fin 1) (0 : Fin 1) h) (ix2 (0 : Fin 1) h) (by
    rw [Shape.rowMajor_val_two, Shape.rowMajor_val_three]; show 0 * 128 + h.val = (0 * 1 + 0) * 128 + h.val; omega)]
  rfl

/-- The load of the weights from their staging buffer. -/
theorem scaledOf_rep (c : Dev nD) (arg1 : Memref sig .tc .vmem S1x128 .f32) (w0 : FVec Ideal S1x128 .f32) :
    scaledOf c arg1 (arg1.view.rep w0) = k0_pay93 (F := Ideal) w0 := by
  have z : (![0, 0] : Fin S1x128.rank → ℕ) = fun _ => 0 := funext fun a => by match a with | 0 => rfl | 1 => rfl
  refine congrArg (k0_pay93 (F := Ideal)) ?_
  rw [View.readAt_eq_ld, View.read_rep]
  exact View.ld_unit_zero (Val := Elt Ideal) (e := .f32) (S := S1x128) z inb_S1x128_S1x128_0_0 w0

section Trip

variable (c : Dev nD) (X : Buf (Elt Ideal) (xM.view.loc (c : Thread nD τ)))
  (arg1 : Memref sig .tc .vmem S1x128 .f32) (harg1 : arg1.IsWhole)
  (arg2 : Memref sig .tc .vmem S32x8x128 .f32) (harg2 : arg2.IsWhole)
  (v4 : FVec Ideal S1x1x128 .f32) (u : Fin 128 → ℝ) (hu : ∀ h, v4 (ix3 (0 : Fin 1) (0 : Fin 1) h) = (u h : EReal))

include hu in
/-- The row block trip `k` stores, when the scaled weights are reals `u`. -/
theorem stored_apply (k : Fin k0_t1_loop.trips) (r : Fin 8) (h : Fin 128) (hr : 8 * (Ring.bk 32 k.val).val + r.val < 256) :
    stored c X arg1 harg1 arg2 harg2 v4 k (ix3 (0 : Fin 1) r h)
      = mean (fun p => Real.rpow 2 (score X u ⟨8 * (Ring.bk 32 k.val).val + r.val, hr⟩ p)) (fun p => X (ix3 (⟨8 * (Ring.bk 32 k.val).val + r.val, hr⟩ : Fin 256) p h)) := by
  rw [stored_eq_rows]
  have hS : ∀ j (i : Fin 256), scores v4 (runOf c X k j) (ix3 r i (0 : Fin 1)) = ((∑ h : Fin 128, squash (runOf c X k j (ix3 r i h)) * u h : ℝ) : EReal) := fun j i => by
    rw [scores_apply, coe_sum]
    exact Finset.sum_congr rfl fun h _ => by rw [squash_eq, hu, EReal.coe_mul]
  have hj : ∀ j (i : Fin 256), j * 256 + i.val < 4096 → j < 16 := fun j i hp => by omega
  refine rows_mean v4 (runOf c X k) r h _ hS _ _ ?_ ?_
  · intro j i hp
    exact Finset.sum_congr rfl fun h _ => by rw [runOf_apply c X k j (hj j i hp) r i h hp hr]
  · intro j i hp
    exact runOf_apply c X k j (hj j i hp) r i h hp hr

end Trip

variable (m : (ℓ : Loc nD τ sig) → Buf (Elt Ideal) ℓ)

/-- The array of sequences and the weights, as launched. -/
abbrev seqs (c : Dev nD) : S256x4096x128.Idx → EReal := m ((c : Thread nD τ).loc main_arg0)
abbrev wts (c : Dev nD) : S128x1.Idx → EReal := m ((c : Thread nD τ).loc main_arg1)

/-- What the body leaves in the kernel's output array: the block of trip `y 0`. -/
theorem outVal_apply (c : Dev nD) (y : S32x8x128.Idx) :
    outVal m c y = stored (F := Ideal) c (seqs m c) (stW t0_0) (hstW t0_0) (stO t0_0) (hstO t0_0)
      (k0_pay93 (F := Ideal) (shapeCast S1x128 (wts m c) shapeCasts_S128x1_S1x128)) ⟨(y 0).val, by rw [trips_eq]; exact (y 0).isLt⟩ (ix3 0 (y 1) (y 2)) := by
  have e := outOf_read c (XA m c) (stW t0_0) (hstW t0_0) (stO t0_0) (hstO t0_0) ((stW t0_0).view.rep (iblk m c 0 t0_0)) (stO t0_0).view.junk y
  have es : scaledOf c (stW t0_0) ((stW t0_0).view.rep (iblk m c 0 t0_0)) = k0_pay93 (F := Ideal) (shapeCast S1x128 (wts m c) shapeCasts_S128x1_S1x128) :=
    (scaledOf_rep c (stW t0_0) (iblk m c 0 t0_0)).trans (congrArg (k0_pay93 (F := Ideal)) (weights_eq m c t0_0))
  have ex : XA m c = seqs m c := V_main_arg0 m c
  rw [es, ex] at e
  exact e

variable (c : Dev nD) (w : Fin 128 → ℝ) (hw : ∀ h, wts m c (ix2 h (0 : Fin 1)) = (w h : EReal))

include hw in
/-- The scaled weights are reals. -/
theorem scaled_real (h : Fin 128) : k0_pay93 (F := Ideal) (shapeCast S1x128 (wts m c) shapeCasts_S128x1_S1x128) (ix3 (0 : Fin 1) (0 : Fin 1) h) = ((w h * (Real.log 2)⁻¹ : ℝ) : EReal) := by
  rw [scaled_apply, shapeCast_apply _ shapeCasts_S128x1_S1x128 (ix2 (0 : Fin 1) h) (ix2 h (0 : Fin 1)) (by
    rw [Shape.rowMajor_val_two, Shape.rowMajor_val_two]; show h.val * 1 + 0 = 0 * 128 + h.val; omega), hw, EReal.coe_mul]

include hw in
/-- THE KERNEL'S VALUE. -/
theorem result_apply (b : Fin 256) (h : Fin 128) :
    shapeCast S256x128 (outVal m c) shapeCasts_S32x8x128_S256x128 (ix2 b h) = pooled (seqs m c) w b h := by
  have hb := b.isLt
  have h0 : b.val / 8 < 32 := by omega
  have h1 : b.val % 8 < 8 := Nat.mod_lt _ (by decide)
  rw [shapeCast_apply _ shapeCasts_S32x8x128_S256x128 (ix2 b h) (ix3 (⟨b.val / 8, h0⟩ : Fin 32) (⟨b.val % 8, h1⟩ : Fin 8) h) (by
    rw [Shape.rowMajor_val_two, Shape.rowMajor_val_three]; show (b.val / 8 * 8 + b.val % 8) * 128 + h.val = b.val * 128 + h.val; omega), outVal_apply]
  have hk : (Ring.bk 32 (b.val / 8)).val = b.val / 8 := Nat.mod_eq_of_lt h0
  have hr : 8 * (Ring.bk 32 (b.val / 8)).val + b.val % 8 < 256 := by omega
  refine (stored_apply c (seqs m c) _ _ _ _ _ (fun h => w h * (Real.log 2)⁻¹) (scaled_real m c w hw) ⟨b.val / 8, by rw [trips_eq]; exact h0⟩ ⟨b.val % 8, h1⟩ h hr).trans ?_
  have eb : (⟨8 * (Ring.bk 32 (b.val / 8)).val + b.val % 8, hr⟩ : Fin 256) = b := Fin.ext (by show 8 * (Ring.bk 32 (b.val / 8)).val + b.val % 8 = b.val; omega)
  have e : ∀ b' : Fin 256, b' = b → mean (fun p => Real.rpow 2 (score (seqs m c) (fun h => w h * (Real.log 2)⁻¹) b' p)) (fun p => seqs m c (ix3 b' p h)) = pooled (seqs m c) w b h := by
    rintro b' rfl
    unfold pooled
    simp only [two_score]
  exact e _ eb

end Cert.Proof.Stream

end
-- ==== Proof.RefValue.lean ====
/-
  What the reference computes at the extended reals, when every weight is a real: the pooled vectors.
-/
module

public import proofs.«01_k».proof.Defs
public import proofs.«01_k».proof.Proof.Gen.ReferenceIdeal.Run
public import proofs.«01_k».proof.Proof.Gen.ReferenceIdeal.Read
public import proofs.«01_k».proof.Proof.Pooled

@[expose] public section

noncomputable section

open scoped BigOperators

namespace Cert.Proof.Reference

open Cert.ReferenceIdeal Cert.ReferenceIdeal.Gen Cert.ReferenceIdeal.Read
open Idealize.ShloMosaic Idealize.ShloMosaic.TcCoe Idealize.ShloMosaic.ValueIdx
open Cert.Proof.Softmax

variable (x0 : (⟨S256x4096x128, .f32⟩ : BufTy).Contents (Elt Ideal)) (x1 : (⟨S128x1, .f32⟩ : BufTy).Contents (Elt Ideal))
  (w : Fin 128 → ℝ) (hw : ∀ h, x1 (ix2 h (0 : Fin 1)) = (w h : EReal))

/-- Minus infinity's pattern. -/
theorem start_eq : Ideal.ofBits .f32 0xFF800000#32 = ⊥ := by simp [Ideal.ofBits, Ideal.ieee]

include hw in
/-- The scores. -/
theorem scores_eq (b : Fin 256) (p : Fin 4096) : val_main_v2 (F := Ideal) x0 x1 (ix2 b p) = (score x0 w b p : EReal) := by
  rw [val_main_v2_apply, ← score_eq]
  refine Finset.sum_congr rfl fun h _ => ?_
  have e0 : val_main_v0 (F := Ideal) x0 (lidx_main_v2 (ix2 b p) h) = Ideal.tanh (x0 (ix3 b p h)) :=
    congrArg (fun i => Ideal.tanh (x0 i)) (funext fun a => Fin.ext (by match a with | 0 => rfl | 1 => rfl | 2 => rfl))
  have e1 : val_main_v1 (F := Ideal) x1 (ridx_main_v2 (ix2 b p) h) = (w h : EReal) := by
    rw [val_main_v1_apply, ← hw]
    exact congrArg x1 (funext fun a => Fin.ext (by
      match a with
      | 0 => exact Nat.div_one h.val
      | 1 => rfl))
  rw [e0, e1]

include hw in
/-- The largest score of a sequence is a real. -/
theorem top_real (b : Fin 256) : ∃ M : ℝ, val_main_v5 (F := Ideal) x0 x1 (ix1 b) = (M : EReal) := by
  obtain ⟨M, hM⟩ := max_real (fun p : Fin 4096 => score x0 w b p)
  refine ⟨M, ?_⟩
  have e3 : val_main_v3 (F := Ideal) x0 x1 (ix1 b) = (M : EReal) := by
    unfold val_main_v3
    rw [Host.reduce_eq_fold_single FloatOps.maximumf _ _ reducesTo_S256x4096_S256_d1 (by decide) h_S_, ← hM]
    have e : (val_main_v2 (F := Ideal) x0 x1 ∘ (show S256x4096.Reduces [1] S256 by decide).lift (ix1 b)) = fun p : Fin 4096 => (score x0 w b p : EReal) :=
      funext fun p => (congrArg (val_main_v2 (F := Ideal) x0 x1) (funext fun a => Fin.ext (by match a with | 0 => rfl | 1 => rfl))).trans (scores_eq x0 x1 w hw b p)
    rw [e]
    exact congrArg (fun z => (Finset.univ : Finset (Fin 4096)).fold max z (fun p => (score x0 w b p : EReal))) start_eq
  have e4 : val_main_v4 (F := Ideal) (ix1 b) = (⊥ : EReal) := (val_main_v4_apply _).trans start_eq
  rw [val_main_v5_apply, e3, e4]
  exact max_eq_right bot_le

include hw in
/-- THE REFERENCE'S VALUE. -/
theorem value_eq (b : Fin 256) (h : Fin 128) : val_main_v14 (F := Ideal) x0 x1 (ix2 b h) = pooled x0 w b h := by
  obtain ⟨M, hM⟩ := top_real x0 x1 w hw b
  -- the weights, relative to the largest score
  have e9 : ∀ p, val_main_v9 (F := Ideal) x0 x1 (ix2 b p) = ((Real.exp (score x0 w b p) * Real.exp (-M) : ℝ) : EReal) := fun p => by
    have e7 : val_main_v7 (F := Ideal) x0 x1 (ix2 b p) = (M : EReal) := by
      rw [val_main_v7_apply, val_main_v6_apply, ← hM]
      exact congrArg (val_main_v5 (F := Ideal) x0 x1) (funext fun a => Fin.ext (by match a with | 0 => rfl))
    rw [val_main_v9_apply, val_main_v8_apply, scores_eq x0 x1 w hw, e7, ← Real.exp_add, ← sub_eq_add_neg]
    rfl
  -- their sum
  have e12 : ∀ p, val_main_v12 (F := Ideal) x0 x1 (ix2 b p) = ((∑ q, Real.exp (score x0 w b q) * Real.exp (-M) : ℝ) : EReal) := fun p => by
    rw [val_main_v12_apply, val_main_v11_apply, val_main_v10_apply, coe_sum]
    have z : val_main_cst_1 (F := Ideal) (Shape.Idx.first h_S_) = (0 : EReal) := Ideal.ofBits_zero_f32
    rw [z, zero_add]
    refine Finset.sum_congr rfl fun q _ => ?_
    rw [← e9 q]
    exact congrArg (val_main_v9 (F := Ideal) x0 x1) (funext fun a => Fin.ext (by match a with | 0 => rfl | 1 => rfl))
  have hpos : 0 < ∑ q, Real.exp (score x0 w b q) * Real.exp (-M) :=
    Finset.sum_pos (fun q _ => mul_pos (Real.exp_pos _) (Real.exp_pos _)) ⟨0, Finset.mem_univ _⟩
  have e13 : ∀ p, val_main_v13 (F := Ideal) x0 x1 (ix2 b p)
      = ((Real.exp (score x0 w b p) * Real.exp (-M) * (∑ q, Real.exp (score x0 w b q) * Real.exp (-M))⁻¹ : ℝ) : EReal) := fun p => by
    rw [val_main_v13_apply, e9, e12, Ideal.hostDivf_def]
    unfold Ideal.div
    rw [if_neg (by exact_mod_cast hpos.ne'), ← EReal.coe_inv, ← EReal.coe_mul]
  rw [val_main_v14_apply]
  unfold pooled
  rw [← mean_scale _ _ (Real.exp_pos (-M)), ← mean_divided _ _ hpos.le]
  refine Finset.sum_congr rfl fun p _ => ?_
  have ex : x0 (lidx_main_v14 (ix2 b h) p) = x0 (ix3 b p h) := congrArg x0 (funext fun a => Fin.ext (by match a with | 0 => rfl | 1 => rfl | 2 => rfl))
  have er : ridx_main_v14 (ix2 b h) p = ix2 b p := funext fun a => Fin.ext (by match a with | 0 => rfl | 1 => rfl)
  rw [ex, er, e13]

end Cert.Proof.Reference

end
-- ==== Proof.Equation.lean ====
/-
  THE EQUATION: from equal arguments with finite weights, the kernel's result and the reference's are equal.
-/
module

public import proofs.«01_k».proof.Proof.KernelValue
public import proofs.«01_k».proof.Proof.RefValue
public import proofs.«01_k».proof.Proof.Gen.Pre_weights_finite

@[expose] public section

noncomputable section

namespace Cert.Proof

open Idealize.ShloMosaic Idealize.SL.Sem Idealize.ShloMosaic.ValueIdx

attribute [local instance] Cert.KernelIdeal.Gen.facts Cert.ReferenceIdeal.Gen.facts Cert.Pre_weights_finite.Gen.facts

/-- An extended real of absolute value below infinity is a real. -/
theorem real_of_abs_lt (a : EReal) (h : max a (-a) < ⊤) : a = (a.toReal : EReal) := by
  refine (EReal.coe_toReal ?_ ?_).symm
  · rintro rfl; exact absurd (lt_of_le_of_lt (le_max_left _ _) h) (lt_irrefl _)
  · rintro rfl; exact absurd (lt_of_le_of_lt (le_max_right _ _) h) (by simp)

/-- The pattern of infinity. -/
theorem inf_eq : Ideal.ofBits .f32 0x7F800000#32 = ⊤ := by simp [Ideal.ofBits, Ideal.ieee]

/-- The precondition says that every weight is a real. -/
theorem weights_real (x0 : (⟨3, ![256, 4096, 128]⟩ : Shape).Idx → EReal) (x1 : (⟨2, ![128, 1]⟩ : Shape).Idx → EReal)
    (h : Cert.Pre_weights_finite.fn (F := Ideal) x0 x1 = fun _ => 1#1) (k : Fin 128) : x1 (ix2 k (0 : Fin 1)) = ((x1 (ix2 k (0 : Fin 1))).toReal : EReal) := by
  refine real_of_abs_lt _ ?_
  have e := congrFun h (ix2 k (0 : Fin 1))
  have e' : BitVec.ofBool (decide (max (x1 (ix2 k (0 : Fin 1))) (-x1 (ix2 k (0 : Fin 1))) < Ideal.ofBits .f32 0x7F800000#32)) = 1#1 := e
  rw [inf_eq] at e'
  by_contra hn
  rw [decide_eq_false hn] at e'
  exact absurd e' (by decide)

/-- THE KERNEL COMPUTES THE REFERENCE. -/
theorem kernel_computes_reference : Cert.algebraic_KernelIdeal_ReferenceIdeal_pre_weights_finite := by
  intro m g m' g' hpre hagree
  refine ⟨fun c => shapeCast Cert.KernelIdeal.S256x128 (Stream.outVal m c) Cert.KernelIdeal.Gen.shapeCasts_S32x8x128_S256x128, ?_, ?_⟩
  · exact (θ_run _ _ _).mono (fun _ h => h.1) (Stream.run_value m g)
  · refine (θ_run _ _ _).mono (fun _ h c => ⟨(h c).1.trans ?_, (h c).2⟩) (Cert.ReferenceIdeal.Value.run (F := Ideal) m' g')
    rw [(hagree c).1, (hagree c).2]
    refine (Cert.ReferenceIdeal.Read.val_main_v14_eq _ _).trans (funext fun i => ?_)
    have hw := weights_real (Stream.seqs m c) (Stream.wts m c) (hpre c)
    obtain ⟨b, k, rfl⟩ : ∃ (b : Fin 256) (k : Fin 128), i = ix2 b k := ⟨i 0, i 1, eq_ix2 i⟩
    exact (Reference.value_eq _ _ _ hw b k).trans (Stream.result_apply m c _ hw b k).symm

end Cert.Proof

end
-- ==== Proof.Transfer.lean ====
/-
  The kernel as printed and its idealisation are one program at the float formats: at `Bits` the named constant is the
  printed one. So the frame proved of the idealised program at every float type is the printed kernel's frame too.
-/
module

public import proofs.«01_k».proof.Defs
public import proofs.«01_k».proof.Proof.Gen.Kernel
public import proofs.«01_k».proof.Proof.Gen.KernelIdeal

@[expose] public section

noncomputable section

open Idealize.ShloMosaic Idealize.SL.Sem

namespace Cert.Proof.Transfer

/-- At the float formats a named constant is the word it was printed as. -/
instance namedBits : Named Bits where
  named _ _ {φ} bits := Scalar.ofBits φ bits

attribute [local instance] Cert.Kernel.Gen.facts Cert.KernelIdeal.Gen.facts

/-- The two kernel functions are equal at the float formats. -/
theorem kernel_fn_eq : Cert.KernelIdeal.cc0_additive_attention_pool (F := Bits) = Cert.Kernel.cc0_additive_attention_pool (F := Bits) := rfl

/-- So are the two mains, -/
theorem main_eq : Cert.KernelIdeal.main (F := Bits) = Cert.Kernel.main (F := Bits) := rfl

/-- the tables of kernel functions, -/
theorem table_eq : Cert.KernelIdeal.defs₀ (F := Bits) = Cert.Kernel.defs₀ (F := Bits) := by
  unfold Cert.KernelIdeal.defs₀ Cert.Kernel.defs₀
  apply congrArg Defs.onTc
  funext l a
  match l, a with
  | 0, a => exact congrFun (congrFun (congrFun (congrFun (congrFun (congrFun (congrFun (congrFun (congrFun kernel_fn_eq _) _) _) _) _) _) _) _) _
  | ⟨_ + 1, h⟩, _ => exact absurd h (Nat.not_lt.2 (Nat.le_add_left _ _))

/-- and the programs' definitions. -/
theorem defs_eq : Cert.KernelIdeal.defs (F := Bits) = Cert.Kernel.defs (F := Bits) :=
  congrArg (Pipeline.defs Cert.Kernel.pcfgs) table_eq

/-- The printed kernel's frame, from the idealised program's at the float formats. -/
theorem frame_kernel (h : ∀ (m : (ℓ : Loc Cert.KernelIdeal.nD Cert.KernelIdeal.τ Cert.KernelIdeal.sig) → Buf (Elt Bits) ℓ) (g : Dev Cert.KernelIdeal.nD → PrngReg),
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)) : Cert.quiescent_Kernel := fun m g _ => by
  have e := h m g
  rw [defs_eq] at e
  exact e

end Cert.Proof.Transfer

end
-- ==== Proof.lean ====
/-
  The certificate: the kernel's frame at the float formats and at the extended reals, the reference's frame, the rule that
  names the kernel's constant, and that the kernel computes the reference.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_weights_finite
public import proofs.«01_k».proof.Proof.Results
public import proofs.«01_k».proof.Proof.Equation
public import proofs.«01_k».proof.Proof.Transfer
public import Idealize.ShloMosaic.Lib.Quiescent

@[expose] public section

noncomputable section

open Idealize.ShloMosaic Idealize.SL.Sem

namespace Cert.Proof

attribute [local instance] Cert.Kernel.Gen.facts Cert.KernelIdeal.Gen.facts Cert.ReferenceIdeal.Gen.facts Cert.Pre_weights_finite.Gen.facts

/-- The idealised kernel's frame, at every float type. -/
theorem frame {F : FTy → Type} [FloatOps F] [Named F] (m : (ℓ : Loc Cert.KernelIdeal.nD Cert.KernelIdeal.τ Cert.KernelIdeal.sig) → Buf (Elt F) ℓ) (g : Dev Cert.KernelIdeal.nD → PrngReg) :
    θ_run (Cert.KernelIdeal.defs (F := F)) (onTc (τ := Cert.KernelIdeal.τ) (Cert.KernelIdeal.main (F := F))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run _ _ _).mono (fun _ h => ⟨fun c => (h.1 c).2, h.2⟩) (Stream.run_value m g)

/-- The reference's frame: its run leaves the arguments, and it has no semaphore. -/
theorem frame_reference (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) :=
  (θ_run _ _ _).mono (fun r h => ⟨fun c => (h c).2, sem_eq_zero_of_no_sems (by decide) r.2⟩) (Cert.ReferenceIdeal.Value.run (F := Ideal) m g)

/-- THE CLAIM. -/
theorem claim : Cert.Claim :=
  ⟨Cert.Kernel.Gen.facts, Cert.KernelIdeal.Gen.facts, Cert.ReferenceIdeal.Gen.facts, Cert.Pre_weights_finite.Gen.facts,
    Transfer.frame_kernel (fun m g => frame m g),
    fun m g _ => frame m g,
    fun m g _ => frame m g,
    fun m g _ => frame_reference m g,
    fun m g _ => frame_reference m g,
    IdealRules.named_const.statement Cert.KernelIdeal.κ "log2e" .f32 0x3FB8AA3B#32 (((Real.log 2)⁻¹ : ℝ) : EReal) rfl,
    kernel_computes_reference⟩

end Cert.Proof

end
